-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stays_Kernel [hPre_stays_Kernel : Cert.Pre_stays_Kernel.Facts] (m : (ℓ : Loc Cert.Kernel.nD Cert.Kernel.τ Cert.Kernel.sig) → Buf (Elt Bits) ℓ) : Prop :=
  ∀ c : Dev Cert.Kernel.nD,
    (Cert.Pre_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stays_Kernel [hPre_stays_Kernel : Cert.Pre_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stays_ReferenceIdeal [hPre_stays_ReferenceIdeal : Cert.Pre_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Words [hPre_swaps_ReferenceIdeal : Cert.Pre_swaps_ReferenceIdeal.Facts] (m : (ℓ : Loc Cert.Words.nD Cert.Words.τ Cert.Words.sig) → Buf (Elt Bits) ℓ) : Prop :=
  ∀ c : Dev Cert.Words.nD,
    (Cert.Pre_swaps_ReferenceIdeal.fn (F := Bits) (m ((c.tc : Thread Cert.Words.nD Cert.Words.τ).loc Cert.Words.main_arg0)) (m ((c.tc : Thread Cert.Words.nD Cert.Words.τ).loc Cert.Words.main_arg1))) = (fun _ => 1#1)

def Pre_Words_stays_ReferenceIdeal [hPre_stays_ReferenceIdeal : Cert.Pre_stays_ReferenceIdeal.Facts] (m : (ℓ : Loc Cert.Words.nD Cert.Words.τ Cert.Words.sig) → Buf (Elt Bits) ℓ) : Prop :=
  ∀ c : Dev Cert.Words.nD,
    (Cert.Pre_stays_ReferenceIdeal.fn (F := Bits) (m ((c.tc : Thread Cert.Words.nD Cert.Words.τ).loc Cert.Words.main_arg0)) (m ((c.tc : Thread Cert.Words.nD Cert.Words.τ).loc Cert.Words.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stays_Kernel [hKernel : Cert.Kernel.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg), Pre_Kernel_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stays_Kernel [hKernelIdeal : Cert.KernelIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stays_ReferenceIdeal [hReferenceIdeal : Cert.ReferenceIdeal.Facts] [hPre_stays_ReferenceIdeal : Cert.Pre_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Words [hWords : Cert.Words.Facts] [hPre_swaps_ReferenceIdeal : Cert.Pre_swaps_ReferenceIdeal.Facts] : Prop :=
  ∀ (m : (ℓ : Loc Cert.Words.nD Cert.Words.τ Cert.Words.sig) → Buf (Elt Bits) ℓ) (g : Dev Cert.Words.nD → PrngReg), Pre_Words m →
    θ_run (Cert.Words.defs (F := Bits)) (onTc (τ := Cert.Words.τ) (Cert.Words.main (F := Bits))) ⟨m, fun _ => 0, g⟩ (fun r => (∀ c : Dev Cert.Words.nD,
      r.2.mem ((c.tc : Thread Cert.Words.nD Cert.Words.τ).loc Cert.Words.main_arg0) = m ((c.tc : Thread Cert.Words.nD Cert.Words.τ).loc Cert.Words.main_arg0)
      ∧ r.2.mem ((c.tc : Thread Cert.Words.nD Cert.Words.τ).loc Cert.Words.main_arg1) = m ((c.tc : Thread Cert.Words.nD Cert.Words.τ).loc Cert.Words.main_arg1))
      ∧ r.2.sem = fun _ => 0)

def quiescent_Words_pre_stays_ReferenceIdeal [hWords : Cert.Words.Facts] [hPre_stays_ReferenceIdeal : Cert.Pre_stays_ReferenceIdeal.Facts] : Prop :=
  ∀ (m : (ℓ : Loc Cert.Words.nD Cert.Words.τ Cert.Words.sig) → Buf (Elt Bits) ℓ) (g : Dev Cert.Words.nD → PrngReg), Pre_Words_stays_ReferenceIdeal m →
    θ_run (Cert.Words.defs (F := Bits)) (onTc (τ := Cert.Words.τ) (Cert.Words.main (F := Bits))) ⟨m, fun _ => 0, g⟩ (fun r => (∀ c : Dev Cert.Words.nD,
      r.2.mem ((c.tc : Thread Cert.Words.nD Cert.Words.τ).loc Cert.Words.main_arg0) = m ((c.tc : Thread Cert.Words.nD Cert.Words.τ).loc Cert.Words.main_arg0)
      ∧ r.2.mem ((c.tc : Thread Cert.Words.nD Cert.Words.τ).loc Cert.Words.main_arg1) = m ((c.tc : Thread Cert.Words.nD Cert.Words.τ).loc Cert.Words.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stays_Kernel [hKernelIdeal : Cert.KernelIdeal.Facts] [hReferenceIdeal : Cert.ReferenceIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stays_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_Words [hKernel : Cert.Kernel.Facts] [hWords : Cert.Words.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Words.nD Cert.Words.τ Cert.Words.sig) → Buf (Elt Bits) ℓ) (g' : Dev Cert.Words.nD → PrngReg), Pre_Kernel m →
    (∀ c : Dev Cert.Kernel.nD,
      m ((c.tc : Thread Cert.Kernel.nD Cert.Kernel.τ).loc Cert.Kernel.main_arg0) = Layout.blockN ⟨3, ![1, 256, 256]⟩ ⟨3, ![2, 256, 256]⟩ (Layout.meshBlock [2, 2, 2] ![[1], [], []] c) (m' (((0 : Dev Cert.Words.nD).tc : Thread Cert.Words.nD Cert.Words.τ).loc Cert.Words.main_arg0))
      ∧ m ((c.tc : Thread Cert.Kernel.nD Cert.Kernel.τ).loc Cert.Kernel.main_arg1) = m' (((0 : Dev Cert.Words.nD).tc : Thread Cert.Words.nD Cert.Words.τ).loc Cert.Words.main_arg1)) →
    ∃ (v0 : Buf (Elt Bits) (((0 : Dev Cert.Words.nD).tc : Thread Cert.Words.nD Cert.Words.τ).loc Cert.Words.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 256, 256]⟩ ⟨3, ![2, 256, 256]⟩ (Layout.meshBlock [2, 2, 2] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Words.defs (F := Bits)) (onTc (τ := Cert.Words.τ) (Cert.Words.main (F := Bits))) ⟨m', fun _ => 0, g'⟩ (fun r =>
          r.2.mem (((0 : Dev Cert.Words.nD).tc : Thread Cert.Words.nD Cert.Words.τ).loc Cert.Words.main_v7) = v0
          ∧ r.2.mem (((0 : Dev Cert.Words.nD).tc : Thread Cert.Words.nD Cert.Words.τ).loc Cert.Words.main_arg0) = m' (((0 : Dev Cert.Words.nD).tc : Thread Cert.Words.nD Cert.Words.τ).loc Cert.Words.main_arg0)
          ∧ r.2.mem (((0 : Dev Cert.Words.nD).tc : Thread Cert.Words.nD Cert.Words.τ).loc Cert.Words.main_arg1) = m' (((0 : Dev Cert.Words.nD).tc : Thread Cert.Words.nD Cert.Words.τ).loc Cert.Words.main_arg1))

def bitexact_Kernel_Words_pre_stays_Kernel [hKernel : Cert.Kernel.Facts] [hWords : Cert.Words.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Words.nD Cert.Words.τ Cert.Words.sig) → Buf (Elt Bits) ℓ) (g' : Dev Cert.Words.nD → PrngReg), Pre_Kernel_stays_Kernel m →
    (∀ c : Dev Cert.Kernel.nD,
      m ((c.tc : Thread Cert.Kernel.nD Cert.Kernel.τ).loc Cert.Kernel.main_arg0) = Layout.blockN ⟨3, ![1, 256, 256]⟩ ⟨3, ![2, 256, 256]⟩ (Layout.meshBlock [2, 2, 2] ![[1], [], []] c) (m' (((0 : Dev Cert.Words.nD).tc : Thread Cert.Words.nD Cert.Words.τ).loc Cert.Words.main_arg0))
      ∧ m ((c.tc : Thread Cert.Kernel.nD Cert.Kernel.τ).loc Cert.Kernel.main_arg1) = m' (((0 : Dev Cert.Words.nD).tc : Thread Cert.Words.nD Cert.Words.τ).loc Cert.Words.main_arg1)) →
    ∃ (v0 : Buf (Elt Bits) (((0 : Dev Cert.Words.nD).tc : Thread Cert.Words.nD Cert.Words.τ).loc Cert.Words.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 256, 256]⟩ ⟨3, ![2, 256, 256]⟩ (Layout.meshBlock [2, 2, 2] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Words.defs (F := Bits)) (onTc (τ := Cert.Words.τ) (Cert.Words.main (F := Bits))) ⟨m', fun _ => 0, g'⟩ (fun r =>
          r.2.mem (((0 : Dev Cert.Words.nD).tc : Thread Cert.Words.nD Cert.Words.τ).loc Cert.Words.main_v7) = v0
          ∧ r.2.mem (((0 : Dev Cert.Words.nD).tc : Thread Cert.Words.nD Cert.Words.τ).loc Cert.Words.main_arg0) = m' (((0 : Dev Cert.Words.nD).tc : Thread Cert.Words.nD Cert.Words.τ).loc Cert.Words.main_arg0)
          ∧ r.2.mem (((0 : Dev Cert.Words.nD).tc : Thread Cert.Words.nD Cert.Words.τ).loc Cert.Words.main_arg1) = m' (((0 : Dev Cert.Words.nD).tc : Thread Cert.Words.nD Cert.Words.τ).loc Cert.Words.main_arg1))

def Claim : Prop :=
  ∃ (hKernel : Cert.Kernel.Facts) (hKernelIdeal : Cert.KernelIdeal.Facts) (hReferenceIdeal : Cert.ReferenceIdeal.Facts) (hWords : Cert.Words.Facts) (hPre_swaps_Kernel : Cert.Pre_swaps_Kernel.Facts) (hPre_stays_Kernel : Cert.Pre_stays_Kernel.Facts) (hPre_swaps_ReferenceIdeal : Cert.Pre_swaps_ReferenceIdeal.Facts) (hPre_stays_ReferenceIdeal : Cert.Pre_stays_ReferenceIdeal.Facts),
    quiescent_Kernel (hKernel := hKernel) (hPre_swaps_Kernel := hPre_swaps_Kernel)
    ∧ quiescent_Kernel_pre_stays_Kernel (hKernel := hKernel) (hPre_stays_Kernel := hPre_stays_Kernel)
    ∧ quiescent_KernelIdeal (hKernelIdeal := hKernelIdeal) (hPre_swaps_Kernel := hPre_swaps_Kernel)
    ∧ quiescent_KernelIdeal_pre_stays_Kernel (hKernelIdeal := hKernelIdeal) (hPre_stays_Kernel := hPre_stays_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_stays_ReferenceIdeal (hReferenceIdeal := hReferenceIdeal) (hPre_stays_ReferenceIdeal := hPre_stays_ReferenceIdeal)
    ∧ quiescent_Words (hWords := hWords) (hPre_swaps_ReferenceIdeal := hPre_swaps_ReferenceIdeal)
    ∧ quiescent_Words_pre_stays_ReferenceIdeal (hWords := hWords) (hPre_stays_ReferenceIdeal := hPre_stays_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_stays_Kernel (hKernelIdeal := hKernelIdeal) (hReferenceIdeal := hReferenceIdeal) (hPre_stays_Kernel := hPre_stays_Kernel)
    ∧ bitexact_Kernel_Words (hKernel := hKernel) (hWords := hWords) (hPre_swaps_Kernel := hPre_swaps_Kernel)
    ∧ bitexact_Kernel_Words_pre_stays_Kernel (hKernel := hKernel) (hWords := hWords) (hPre_stays_Kernel := hPre_stays_Kernel)
-- ==== Pre_stays_Kernel.lean ====
abbrev S1x256x256 : Shape := ⟨3, ![1, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .sge main_v4 main_c_0
  let main_v6 : IVec S_ 1 := andi main_v2 main_v5
  main_v6
-- ==== Pre_stays_ReferenceIdeal.lean ====
abbrev S2x256x256 : Shape := ⟨3, ![2, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .sge main_v4 main_c_0
  let main_v6 : IVec S_ 1 := andi main_v2 main_v5
  main_v6
-- ==== Pre_swaps_Kernel.lean ====
abbrev S1x256x256 : Shape := ⟨3, ![1, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .ne main_v1 main_c
  let main_v3 : IVec S1 32 := (extractStridedSlice S1 ![1] · slices_S2_S1_1) main_arg1
  let main_v4 : IVec S_ 32 := shapeCast S_ main_v3 shapeCasts_S1_S_
  let main_v5 : IVec S1 32 := (extractStridedSlice S1 ![0] · slices_S2_S1_0) main_arg1
  let main_v6 : IVec S_ 32 := shapeCast S_ main_v5 shapeCasts_S1_S_
  let main_v7 : IVec S_ 1 := cmpi .slt main_v4 main_v6
  let main_v8 : IVec S_ 1 := andi main_v2 main_v7
  main_v8
-- ==== Pre_swaps_ReferenceIdeal.lean ====
abbrev S2x256x256 : Shape := ⟨3, ![2, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .ne main_v1 main_c
  let main_v3 : IVec S1 32 := (extractStridedSlice S1 ![1] · slices_S2_S1_1) main_arg1
  let main_v4 : IVec S_ 32 := shapeCast S_ main_v3 shapeCasts_S1_S_
  let main_v5 : IVec S1 32 := (extractStridedSlice S1 ![0] · slices_S2_S1_0) main_arg1
  let main_v6 : IVec S_ 32 := shapeCast S_ main_v5 shapeCasts_S1_S_
  let main_v7 : IVec S_ 1 := cmpi .slt main_v4 main_v6
  let main_v8 : IVec S_ 1 := andi main_v2 main_v7
  main_v8
-- ==== Kernel.lean ====
abbrev S1x256x256 : Shape := ⟨3, ![1, 256, 256]⟩
abbrev S2 : Shape := ⟨1, ![2]⟩
abbrev S_ : Shape := ⟨0, ![]⟩
abbrev S1 : Shape := ⟨1, ![1]⟩

abbrev nBuf : Space → Nat
  | .hbm => 3
  | .vmem => 3
  | .smem => 1
  | _ => 0

abbrev bufTy : (tb : Table) → Fin (tcTables nBuf tb) → BufTy
  | .hbm, ⟨0, _⟩ => ⟨S1x256x256, .bf16⟩
  | .hbm, ⟨1, _⟩ => ⟨S2, .i32⟩
  | .hbm, ⟨2, _⟩ => ⟨S1x256x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .smem, ⟨0, _⟩ => ⟨S2, .i32⟩
  | _, _ => ⟨S1x256x256, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v18 : BitVec 32 := Scalar.muli v2 c4_i32_7
  let v19 : BitVec 32 := Scalar.addi c0_i32_8 v18
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_5 v5
  let c2_i32_9 : BitVec 32 := 2#32
  let v20 : BitVec 32 := Scalar.muli v16 c2_i32_9
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v22 : BitVec 32 := Scalar.muli v8 c1_i32_10
  let v23 : BitVec 32 := Scalar.addi v21 v22
  v23.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v29 : BitVec 32 := Scalar.muli v2 c4_i32_19
  let v30 : BitVec 32 := Scalar.addi c0_i32_20 v29
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_5 v5
  let c2_i32_21 : BitVec 32 := 2#32
  let v31 : BitVec 32 := Scalar.muli v16 c2_i32_21
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v33 : BitVec 32 := Scalar.muli v8 c1_i32_22
  let v34 : BitVec 32 := Scalar.addi v32 v33
  v34.toNat
abbrev stage0_0 : Fin 1 → Memref sig .tc .vmem S1x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x256x256 : Shape := ⟨3, ![2, 256, 256]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x256x256, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x256x256, .bf16⟩
  | .hbm, ⟨14, _⟩ => ⟨S2x256x256, .f32⟩
  | .hbm, ⟨15, _⟩ => ⟨S2x256x256, .bf16⟩
  | _, _ => ⟨S2x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Words.lean ====
abbrev S2x256x256 : Shape := ⟨3, ![2, 256, 256]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x256x256, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x256x256, .bf16⟩
  | _, _ => ⟨S2x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Exchange.lean ====
/-
  The EXCHANGE of the pair swap: who hands what to whom.

  A device of the 2 x 2 x 2 mesh has one MATE, the device whose `y` coordinate is the other one. A device whose first
  word of `pi` is nonzero exchanges its block of `x` with its mate's: it tells the mate's barrier semaphore that its
  result buffer may be written, copies its block into the scratch buffer, waits for the mate's word on its own barrier
  semaphore, sends the scratch buffer to the mate's result buffer, and waits until its own send has left and its own
  result buffer has been written. A device whose first word is zero copies its block to its result buffer.

  Nothing here assumes that a device exchanges. Whether it does is read off its memory (`sw`), and each of the three
  cells of a device — barrier, departure, arrival — has one duty in its first round if the device exchanges and none
  otherwise. What is needed of the memory is that mates agree (`Agree`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the exchange. -/
abbrev Tokens : Type := URounds (GSem nD τ sig) Unit
/-- Both together, the pipeline's first. -/
abbrev Ghost : Type := UR sig nD τ × Tokens

local notation "𝕄" => MT nD τ sig Unit (Elt F) ℕ Ghost ℕ

/-- Where the pipeline's ghost state sits. -/
abbrev EP : Emb (UR sig nD τ) (MT nD τ sig Unit (Elt F) ℕ Ghost ℕ) := embL
/-- Where the exchange's sits. -/
abbrev EX : Emb Tokens (MT nD τ sig Unit (Elt F) ℕ Ghost ℕ) := embR

variable (m : (ℓ : Loc nD τ sig) → Buf (Elt F) ℓ)

/-! ## Mates -/

/-- The device with the other `y` coordinate (devices are numbered `4 x + 2 y + z`). -/
def mate : Dev nD → Dev nD := fun c => match c with
  | 0 => 2 | 1 => 3 | 2 => 0 | 3 => 1 | 4 => 6 | 5 => 7 | 6 => 4 | 7 => 5

/-- The mate's mate is the device itself. -/
theorem mate_mate : ∀ c : Dev nD, mate (mate c) = c := by decide

/-- The signal names the mate as its target. -/
theorem signal_to : ∀ c : Dev nD, (⟨k0_dev1 c, k0_dev1_lt c⟩ : Dev nD) = mate c := by decide +kernel
/-- The transfer names the mate as its target. -/
theorem send_to : ∀ c : Dev nD, (⟨k0_dev2 c, k0_dev2_lt c⟩ : Dev nD) = mate c := by decide +kernel

/-- Passing to the mate, as a rearrangement of the devices. -/
def mates : Dev nD ≃ Dev nD := ⟨mate, mate, mate_mate, mate_mate⟩

/-! ## What a device's memory says -/

/-- A device's block of `x`, as the pipeline stages it. -/
def xs (c : Dev nD) : (cc0_stg0_0 : Ref sig .tc).ty.Contents (Elt F) :=
  (win0_0.blk (0 : Fin 1)).view.read (Elt F) (m ((c : Thread nD τ).loc main_arg0))
/-- A device's copy of `pi`, as the pipeline stages it. -/
def ps (c : Dev nD) : (cc0_stg1_0 : Ref sig .tc).ty.Contents (Elt F) :=
  (win0_1.blk (0 : Fin 1)).view.read (Elt F) (m ((c : Thread nD τ).loc main_arg1))

/-- The place of `pi`'s first word. -/
def first : S2.Idx := fun a => match a with | 0 => (0 : Fin 2)

/-- The first word of a device's `pi`. -/
def word (c : Dev nD) : BitVec 32 := ps m c first

/-- Does the device exchange? Its first word of `pi` is nonzero. -/
def sw (c : Dev nD) : Bool := word m c != 0#32

/-- Mates agree whether they exchange. -/
def Agree : Prop := ∀ c : Dev nD, sw m (mate c) = sw m c

/-- What the kernel leaves in a device's result buffer. -/
def res (c : Dev nD) : (cc0_stg2_0 : Ref sig .tc).ty.Contents (Elt F) := if sw m c then xs m (mate c) else xs m c

/-! ## Buffers and cells -/

/-- The staged block of `x`. -/
abbrev xM : Memref sig .tc .vmem S1x256x256 .bf16 := Memref.whole cc0_stg0_0
/-- The staged copy of `pi`. -/
abbrev pM : Memref sig .tc .smem S2 .i32 := Memref.whole cc0_stg1_0
/-- The staged result block. -/
abbrev oM : Memref sig .tc .vmem S1x256x256 .bf16 := Memref.whole cc0_stg2_0
/-- The scratch buffer. -/
abbrev wM : Memref sig .tc .vmem S1x256x256 .bf16 := Memref.whole cc0_scratch0

/-- A device's result buffer, at given contents. -/
def outPts (c : Dev nD) (f : Buf (Elt F) ((oM : Memref sig .tc .vmem S1x256x256 .bf16).view.loc (c : Thread nD τ))) : sProp 𝕄 :=
  (oM : Memref sig .tc .vmem S1x256x256 .bf16).view.loc (c : Thread nD τ) ↦[(oM : Memref sig .tc .vmem S1x256x256 .bf16).view.set]{fullShare} f
/-- A device's scratch buffer, at given contents. -/
def wrkPts (c : Dev nD) (f : Buf (Elt F) ((wM : Memref sig .tc .vmem S1x256x256 .bf16).view.loc (c : Thread nD τ))) : sProp 𝕄 :=
  (wM : Memref sig .tc .vmem S1x256x256 .bf16).view.loc (c : Thread nD τ) ↦[(wM : Memref sig .tc .vmem S1x256x256 .bf16).view.set]{fullShare} f

omit [FloatOps F] in
/-- It is the whole buffer. -/
theorem outPts_eq (c : Dev nD) (f : Buf (Elt F) ((c : Thread nD τ).loc cc0_stg2_0)) :
    outPts c f = (((c : Thread nD τ).loc cc0_stg2_0) ↦{fullShare} f : sProp 𝕄) := by unfold outPts; rw [View.set_whole]
omit [FloatOps F] in
/-- So is the scratch buffer. -/
theorem wrkPts_eq (c : Dev nD) (f : Buf (Elt F) ((c : Thread nD τ).loc cc0_scratch0)) :
    wrkPts c f = (((c : Thread nD τ).loc cc0_scratch0) ↦{fullShare} f : sProp 𝕄) := by unfold wrkPts; rw [View.set_whole]

omit [FloatOps F] in
/-- The result buffer can be a duty's payload. -/
instance outPts_storable (c : Dev nD) (f) : BI.Storable (upEmb : UEmb _ 𝕄) (outPts (F := F) c f) := by unfold outPts; infer_instance
omit [FloatOps F] in
/-- So can the scratch buffer. -/
instance wrkPts_storable (c : Dev nD) (f) : BI.Storable (upEmb : UEmb _ 𝕄) (wrkPts (F := F) c f) := by unfold wrkPts; infer_instance

/-- The barrier semaphore the signal and the wait use. -/
abbrev bar : Sem sig := (SemArray.scalar (sig.barrier 0 rfl) : Sems sig S_).sem

/-- A device's three semaphores of the exchange: barrier, departure, arrival. -/
abbrev port : Fin 3 → SemLoc sig := fun | 0 => .reg bar | 1 => .dma cc0_scratch1.sem | 2 => .dma cc0_scratch2.sem
/-- The last two belong to the launch. -/
abbrev ownPort : Fin 2 → SemLoc sig := fun | 0 => port 1 | 1 => port 2

/-- The three are distinct. -/
theorem port_inj : Function.Injective port := by decide

/-- Device `c`'s semaphore number `k`. -/
abbrev cell (c : Dev nD) (k : Fin 3) : GSem nD τ sig := ((c : Thread nD τ), port k)

/-- Cells are equal exactly if devices and numbers are. -/
theorem cell_inj {c c' : Dev nD} {k k' : Fin 3} : cell c k = cell c' k' ↔ c = c' ∧ k = k' :=
  ⟨fun h => ⟨congrArg (fun g : GSem nD τ sig => g.1.1) h, port_inj (congrArg Prod.snd h)⟩, fun h => by rw [h.1, h.2]⟩

/-- The credit of one block. -/
abbrev N : ℕ := (oM : Memref sig .tc .vmem S1x256x256 .bf16).view.dmaCredit

/-- What a cell's one duty adds to it: a unit to the barrier, the block's credit to the other two. -/
def units (k : Fin 3) : ℕ := if k = 0 then 1 else N

/-- What comes with a cell's duty: with the barrier's, the mate's result buffer; with the departure's, the device's
    scratch buffer back; with the arrival's, the device's result buffer holding the mate's block. -/
def pay (c : Dev nD) (k : Fin 3) : sProp 𝕄 :=
  if k = 0 then iprop(∃ f, outPts (mate c) f) else if k = 1 then wrkPts c (xs m c) else outPts c (xs m (mate c))

/-- So can whatever comes with a cell's duty. -/
instance pay_storable (c : Dev nD) (k : Fin 3) : BI.Storable (upEmb : UEmb _ 𝕄) (pay (F := F) m c k) := by
  unfold pay; (repeat' split) <;> infer_instance

/-! ## The schedule -/

/-- Which of the three a semaphore is (`2` for any other). -/
def portNo (s : SemLoc sig) : Fin 3 := if s = port 0 then 0 else if s = port 1 then 1 else 2

/-- It is the number of each of the three. -/
theorem portNo_port : ∀ k, portNo (port k) = k := by decide

/-- One duty per cell, in round 0, where the device exchanges; none where it does not. -/
def plan : Schedule (GSem nD τ sig) Unit 𝕄 where
  duties g r := if r = 0 ∧ g = cell g.1.1 (portNo g.2) ∧ sw m g.1.1 = true then {()} else ∅
  unitless _ := False
  amount g _ _ := units (portNo g.2)
  payload g _ _ := pay m g.1.1 (portNo g.2)
  amount_pos g _ _ _ := by unfold units; split; exacts [Nat.one_pos, View.dmaCredit_pos _ (by decide)]

/-- Every payload of the schedule can be stored. -/
instance plan_storable (g : GSem nD τ sig) (r : ℕ) (d : Unit) : BI.Storable (upEmb : UEmb _ 𝕄) ((plan (F := F) m).payload g r d) :=
  pay_storable m g.1.1 (portNo g.2)

section
variable (c : Dev nD) (k : Fin 3)

omit [FloatOps F] in
/-- A device that exchanges: one duty per cell. -/
theorem duties_on (h : sw m c = true) : (plan m).duties (cell c k) 0 = {()} := by
  dsimp only [plan]; rw [portNo_port]; exact if_pos ⟨rfl, rfl, h⟩
omit [FloatOps F] in
/-- A device that does not: none, in any round. -/
theorem duties_off (h : sw m c = false) (r : ℕ) : (plan m).duties (cell c k) r = ∅ := by
  dsimp only [plan]; exact if_neg fun h' => by rw [h] at h'; exact Bool.false_ne_true h'.2.2
omit [FloatOps F] in
/-- No cell has a duty after round 0. -/
theorem duties_later (g : GSem nD τ sig) (r : ℕ) (hr : 1 ≤ r) : (plan m).duties g r = ∅ := by
  dsimp only [plan]; exact if_neg fun h' => by omega
omit [FloatOps F] in
/-- What the duty of a cell adds to it. -/
theorem amount_cell (d : Unit) : (plan m).amount (cell c k) 0 d = units k := by dsimp only [plan]; rw [portNo_port]
omit [FloatOps F] in
/-- What comes with the duty of a cell. -/
theorem payload_cell (d : Unit) : (plan m).payload (cell c k) 0 d = pay m c k := by dsimp only [plan]; rw [portNo_port]
omit [FloatOps F] in
/-- What a wait on a cell is for. -/
theorem expect_cell (h : sw m c = true) : (plan m).expect (cell c k) 0 = units k := by
  unfold Schedule.expect Schedule.amountOf; rw [duties_on m c k h, Finset.sum_singleton, amount_cell]
omit [FloatOps F] in
/-- What a wait on a cell brings. -/
theorem rest_cell (h : sw m c = true) :
    bigSep ((plan m).duties (cell c k) 0 \ ∅) (fun d => (plan m).payload (cell c k) 0 d) = pay m c k := by
  rw [Finset.sdiff_empty, duties_on m c k h, bigSep_singleton, payload_cell]
end

/-! ## What a device owes at launch; the order of the cells -/

/-- A cell's credit, where the device exchanges. -/
def due (c : Dev nD) (k : Fin 3) : ℕ := if sw m c then units k else 0

/-- A device owes its mate's arrival cell a block and its mate's barrier a unit, if it exchanges. -/
def debt (c : Dev nD) : CellTallies nD τ sig Unit :=
  tallyAt (cell (mate c) 2) () (due m c 2) + tallyAt (cell (mate c) 0) () (due m c 0)

omit [FloatOps F] in
/-- A device that does not exchange owes nothing. -/
theorem debt_off (c : Dev nD) (h : sw m c = false) : debt m c = 0 := by
  unfold debt due; rw [h]
  simp only [Bool.false_eq_true, if_false, tallyAt_zero, add_zero]
omit [FloatOps F] in
/-- One that does owes a block and a unit. -/
theorem debt_on (c : Dev nD) (h : sw m c = true) : debt m c = tallyAt (cell (mate c) 2) () N + tallyAt (cell (mate c) 0) () 1 := by
  unfold debt due; rw [if_pos h, if_pos h]; rfl

/-- Barrier cells come first, arrival cells second; the rest below both. -/
def level (g : GSem nD τ sig) (_ : Unit) : ℕ := if g.2 = port 0 then 1 else if g.2 = port 2 then 2 else 0
/-- The levels are given to the cells of the devices' TensorCores. -/
def lits (g : GSem nD τ sig) : Finset Unit := if g.1.2 = .tc then {()} else ∅

/-- A barrier has level 1. -/
theorem level_bar (c : Dev nD) (u : Unit) : level (cell c 0) u = 1 := if_pos rfl
/-- An arrival has level 2. -/
theorem level_arrival (c : Dev nD) (u : Unit) : level (cell c 2) u = 2 := by
  dsimp only [level]; rw [if_neg (fun h => absurd (port_inj h) (by decide)), if_pos rfl]
/-- No other processor has a level. -/
theorem lits_off (g : GSem nD τ sig) (h : g.1.2 ≠ .tc) : lits g = ∅ := if_neg h
/-- Every semaphore of a TensorCore has one. -/
theorem lits_tc (c : Dev nD) (s : SemLoc sig) (u : Unit) : u ∈ lits ((c : Thread nD τ), s) := by
  unfold lits; rw [if_pos rfl]; exact Finset.mem_singleton_self _

/-- A tally at one cell is positive there only. -/
theorem of_tallyAt {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

omit [FloatOps F] in
/-- What a device owes, it owes to its mate's arrival or its mate's barrier. -/
theorem of_debt {c : Dev nD} {g : GSem nD τ sig} {u : Unit} (h : 0 < debt m c g u) : g = cell (mate c) 2 ∨ g = cell (mate c) 0 := by
  unfold debt at h
  rw [Pi.add_apply, Finsupp.add_apply] at h
  rcases Nat.eq_zero_or_pos ((tallyAt (cell (mate c) 2) () (due m c 2) : CellTallies nD τ sig Unit) g u) with h0 | h0
  · rw [h0, Nat.zero_add] at h; exact .inr (of_tallyAt h)
  · exact .inl (of_tallyAt h0)

omit [FloatOps F] in
/-- A staging wait is below whatever the device owes. -/
theorem wait_stage (c : Dev nD) (q : DmaSem sig) (hq : SemLoc.dma q ≠ port 2) (O : CellTallies nD τ sig Unit) (hO : O = debt m c ∨ O = 0) :
    (levAts lits level : sProp 𝕄) ⊢ MayWait (c : Thread nD τ) (.dma q) () O := by
  rcases hO with rfl | rfl
  · refine MayOwe.of_cut (L := lits) (lev := level) 0 (fun p hp => by rw [Finset.mem_singleton.mp hp]; exact lits_tc c _ _)
      (fun g u hg => by rcases of_debt m hg with rfl | rfl <;> exact lits_tc _ _ _)
      (fun p hp => by rw [Finset.mem_singleton.mp hp]; dsimp only [level]; rw [if_neg (fun h => by cases h), if_neg hq])
      (fun g u hg => by
        rcases of_debt m hg with rfl | rfl
        · rw [level_arrival]; decide
        · rw [level_bar]; decide)
  · rw [MayWait_zero]; iintro -; iempintro

omit [FloatOps F] in
/-- The barrier wait is below the arrival cell of the mate, all that the device then owes. -/
theorem wait_bar (c : Dev nD) :
    (levAts lits level : sProp 𝕄) ⊢ MayWait (c : Thread nD τ) (port 0) () (tallyAt (cell (mate c) 2) () N) :=
  MayOwe.of_cut (L := lits) (lev := level) 1 (fun p hp => by rw [Finset.mem_singleton.mp hp]; exact lits_tc c _ _)
    (fun g u hg => by rw [of_tallyAt hg]; exact lits_tc _ _ _)
    (fun p hp => by rw [Finset.mem_singleton.mp hp]; exact (level_bar c _).le)
    (fun g u hg => by rw [of_tallyAt hg, level_arrival]; decide)

end Cert.Swap

end
-- ==== Proof.Body.lean ====
/-
  The kernel's BODY on one device, run once at a symbolic device and symbolic memory in which mates agree: from what the
  launch deals the device (`ready`) to its result buffer at `res`, its two inputs unchanged and its three semaphores back
  at zero (`body_run`), and the library's obligation from it (`body_ok`).
-/
module

public import proofs.«01_k».proof.Proof.Exchange

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ)

/-! ## What the launch deals -/

/-- What every device may know: every cell's invariant, at the names `K`, and that every cell is in round 0. -/
def known (K : Dev nD × Fin 3 → ℕ) : sProp 𝕄 :=
  iprop((bigSep Finset.univ fun ck : Dev nD × Fin 3 => cellInv EX (plan m) (K ck) (cell ck.1 ck.2))
    ∗ bigSep Finset.univ fun ck : Dev nD × Fin 3 => reached EX (cell ck.1 ck.2) 0)

/-- It can be used any number of times. -/
instance known_persistent (K : Dev nD × Fin 3 → ℕ) : BI.Persistent (known m K) := by unfold known; infer_instance

omit [FloatOps F] in
/-- From it, one cell's invariant. -/
theorem known_inv (K : Dev nD × Fin 3 → ℕ) (c : Dev nD) (k : Fin 3) : known m K ⊢ cellInv EX (plan m) (K (c, k)) (cell c k) :=
  sep_elim_left.trans (bigSep_elim (Φ := fun ck : Dev nD × Fin 3 => (cellInv EX (plan m) (K ck) (cell ck.1 ck.2) : sProp 𝕄)) (Finset.mem_univ (c, k)))
omit [FloatOps F] in
/-- From it, one cell's mark of round 0. -/
theorem known_reached (K : Dev nD × Fin 3 → ℕ) (c : Dev nD) (k : Fin 3) : known m K ⊢ reached EX (cell c k) 0 :=
  sep_elim_right.trans (bigSep_elim (Φ := fun ck : Dev nD × Fin 3 => (reached EX (cell ck.1 ck.2) 0 : sProp 𝕄)) (Finset.mem_univ (c, k)))

/-- What only the device holds: its place at its three cells and the right to pay its mate's barrier, its mate's arrival
    and its own departure. -/
def held (c : Dev nD) : sProp 𝕄 :=
  iprop((atPos EX (cell c 0) 0 ∅ 0 ∗ atPos EX (cell c 1) 0 ∅ 0 ∗ atPos EX (cell c 2) 0 ∅ 0)
    ∗ dutyTok EX (cell (mate c) 0) 0 () ∗ dutyTok EX (cell c 1) 0 () ∗ dutyTok EX (cell (mate c) 2) 0 ())

/-- What the body starts from, besides the buffers. -/
def ready (c : Dev nD) : sProp 𝕄 :=
  iprop((∃ K, known m K ∗ held c) ∗ (cred (tallyAt (cell c 0) () (due m c 0)) ∗ cred (tallyAt (cell c 2) () (due m c 2)))
    ∗ levAts lits level)

/-- The device's three semaphores at zero. -/
def closed3 (c : Dev nD) : sProp 𝕄 := iprop(semVal (cell c 0) 0 ∗ semVal (cell c 1) 0 ∗ semVal (cell c 2) 0)

omit [FloatOps F] in
/-- A device past its cells' last duty has its three semaphores back, at zero. -/
theorem close (K : Dev nD × Fin 3 → ℕ) (c : Dev nD) (R : ℕ) (hR : ∀ k r, R ≤ r → (plan (F := F) m).duties (cell c k) r = ∅) :
    iprop(known m K ∗ (atPos EX (cell c 0) R ∅ 0 ∗ atPos EX (cell c 1) R ∅ 0 ∗ atPos EX (cell c 2) R ∅ 0)) ⊢ |={Set.univ}=> closed3 c := by
  iintro ⟨#HK, H0, H1, H2⟩
  imod (Rounds.cell_close EX (plan m) (Set.mem_univ (K (c, 0))) (fun h => h) (hR 0)) $$ [H0] with Z0
  · isplitr; · iapply (known_inv m K c 0); iexact HK
    iexact H0
  imod (Rounds.cell_close EX (plan m) (Set.mem_univ (K (c, 1))) (fun h => h) (hR 1)) $$ [H1] with Z1
  · isplitr; · iapply (known_inv m K c 1); iexact HK
    iexact H1
  imod (Rounds.cell_close EX (plan m) (Set.mem_univ (K (c, 2))) (fun h => h) (hR 2)) $$ [H2] with Z2
  · isplitr; · iapply (known_inv m K c 2); iexact HK
    iexact H2
  imodintro
  unfold closed3
  isplitl [Z0]; · iexact Z0
  isplitl [Z1] <;> iassumption

/-! ## The pipeline's proof data -/

/-- The kernel's one point: the two inputs stay, the result is `res`; before it the device is `ready` and holds its scratch
    buffer, after it its scratch buffer at anything and its semaphores at zero; it owes `debt` before and nothing after. -/
def dats (_ : Fin 1) (c : Dev nD) : Dat τ (Elt F) Unit ℕ Ghost ℕ cfg0 c where
  A w := m ((cfg0.win w).arr.view.loc (c : Thread nD τ))
  after w _ := match w with
    | ⟨0, _⟩ => xs m c
    | ⟨1, _⟩ => ps m c
    | ⟨2, _⟩ => res m c
  Φ t := match t with
    | ⟨0, _⟩ => iprop(ready m c ∗ ∃ f, wrkPts c f)
    | ⟨_ + 1, _⟩ => iprop((∃ f, wrkPts c f) ∗ closed3 c)
  q _ := fullShare
  owed t := match t with
    | ⟨0, _⟩ => debt m c
    | ⟨_ + 1, _⟩ => 0

/-- The program has no loop, so no variants. -/
abbrev 𝒱₀ : Variants := Variants.none

/-- A staging buffer of device `c` at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- That is what owning the whole staging buffer says. -/
theorem owns_eq_stg (c : Dev nD) (b : Ref sig .tc) (X : b.ty.Contents (Elt F)) :
    (owns (Ix := Unit) (Name := ℕ) (U := Ghost) (Lvl := ℕ) (c : Thread nD τ) (Memref.whole b) fullShare X : sProp 𝕄) = stg c b X := by
  unfold owns; simp only [Memref.view_whole, View.read_whole, View.set_whole]

/-! ## The words and the blocks the body reads and writes -/

/-- The rectangle of a whole block. -/
abbrev whole3 : Rect S1x256x256 := Rect.unit (s := S1x256x256) ![0, 0, 0] S1x256x256.size inb_S1x256x256_S1x256x256_0_0_0

/-- Its corner is the origin. -/
theorem zero3 : (![0, 0, 0] : Fin 3 → Nat) = fun _ => 0 := funext fun a => by fin_cases a <;> rfl

omit [FloatOps F] in
/-- A load of the whole `x` buffer is its contents. -/
theorem read_x (f : (cc0_stg0_0 : Ref sig .tc).ty.Contents (Elt F)) :
    (xM : Memref sig .tc .vmem S1x256x256 .bf16).view.readAt (Elt F) whole3.toLoadRect f = f :=
  Memref.readAt_unit_zero (Elt F) cc0_stg0_0 zero3 _ f
omit [FloatOps F] in
/-- A store over a whole buffer leaves what is stored. -/
theorem write_o (f w : (cc0_stg2_0 : Ref sig .tc).ty.Contents (Elt F)) :
    ((oM : Memref sig .tc .vmem S1x256x256 .bf16).access whole3 : View sig .tc _ _ _).write (Elt F) f w Finset.univ = w :=
  Memref.write_access_unit_zero_univ (Elt F) cc0_stg2_0 zero3 _ f w
omit [FloatOps F] in
/-- The same for the scratch buffer. -/
theorem write_w (f w : (cc0_scratch0 : Ref sig .tc).ty.Contents (Elt F)) :
    ((wM : Memref sig .tc .vmem S1x256x256 .bf16).access whole3 : View sig .tc _ _ _).write (Elt F) f w Finset.univ = w :=
  Memref.write_access_unit_zero_univ (Elt F) cc0_scratch0 zero3 _ f w
omit [FloatOps F] in
/-- What the transfer writes is the scratch buffer's contents. -/
theorem landed (f : (cc0_stg2_0 : Ref sig .tc).ty.Contents (Elt F)) (g : (cc0_scratch0 : Ref sig .tc).ty.Contents (Elt F)) :
    (oM : Memref sig .tc .vmem S1x256x256 .bf16).view.write (Elt F) f ((wM : Memref sig .tc .vmem S1x256x256 .bf16).view.read (Elt F) g) Finset.univ = g := by
  show (View.whole cc0_stg2_0).write (Elt F) f ((View.whole cc0_scratch0).read (Elt F) g) Finset.univ = g
  rw [View.read_whole]
  exact View.write_whole_univ _ _ _

/-- A cast of a block to its own shape changes nothing. -/
theorem cast_self {s : Shape} {α : Type} (v : s.Idx → α) (h : s.ShapeCasts s) : shapeCast s v h = v :=
  funext fun i => congrArg v (Shape.reshapeEquiv_self h i)
/-- What the body stores where it copies is what it loaded. -/
theorem pay1_eq (v : Vec F S1x256x256 .bf16) : k0_pay1 v = v := cast_self v _
/-- So is what it stores where it exchanges. -/
theorem pay2_eq (v : Vec F S1x256x256 .bf16) : k0_pay2 v = v := by
  unfold k0_pay2; exact (cast_self _ _).trans (cast_self v _)

omit [FloatOps F] in
/-- The word the body loads is the first of `pi`. -/
theorem read_p (c : Dev nD) (h : 0 < (Rect.unit (s := S2) ![0] ![1] inb_S2_S1_0).shape.numel) :
    View.readAt (Elt F) (View.whole cc0_stg1_0) (Rect.unit (s := S2) ![0] ![1] inb_S2_S1_0).toLoadRect (ps m c) (Shape.Idx.first h) = word m c :=
  congrArg (ps m c) (funext fun a => by fin_cases a; rfl)

/-- The comparison of that word with zero is the flag `sw`. -/
theorem flag (c : Dev nD) : Scalar.cmpi .ne (word m c) 0#32 = BitVec.ofBool (sw m c) := rfl

/-- The first conditional is taken exactly where the flag is off. -/
theorem if_off : ∀ b : Bool, (Scalar.cmpi .ne (Scalar.extui (Scalar.xori (BitVec.ofBool b) 1#1) : BitVec 32) 0#32 = 1#1) ↔ b = false := by decide
/-- The second conditional is taken exactly where the flag is on. -/
theorem if_on : ∀ b : Bool, (Scalar.cmpi .ne (Scalar.extui (BitVec.ofBool b) : BitVec 32) 0#32 = 1#1) ↔ b = true := by decide

omit [FloatOps F] in
/-- With the signal to its mate's barrier a device hands over its result buffer. -/
theorem bar_payload (c : Dev nD) : (plan m).payload (cell (mate c) 0) 0 () = iprop(∃ f, outPts c f) := by
  rw [payload_cell]
  show iprop(∃ f, outPts (mate (mate c)) f) = _
  rw [mate_mate]

/-! ## The transfer -/

/-- The transfer of the scratch buffer to the mate's result buffer: the device gives both buffers up and owes nothing more;
    its departure cell now has credit. -/
theorem wp_transfer (K : Dev nD × Fin 3 → ℕ) (c n : Dev nD) (hn : n = mate c) (h : sw m c = true) (ha : Agree m)
    {hsc : (oM : Memref sig (Dev.tc n : Thread nD τ).2.kind .vmem S1x256x256 .bf16).view.ref.isScScratch = false}
    {hsrc : (wM : Memref sig .tc .vmem S1x256x256 .bf16).view.WordExact} {hdst : (oM : Memref sig .tc .vmem S1x256x256 .bf16).view.WordExact}
    {hsem : DmaTarget.Typed .vmem (port 2) (.remote (Dev.tc n : Thread nD τ) (oM : Memref sig .tc .vmem S1x256x256 .bf16) (port 1) hsc)}
    {α : Type} {Q : α → sProp 𝕄} {k : PUnit → Prog (TpuEff nD τ sig (Elt F) Λ₀ .tc) α}
    (f : Buf (Elt F) ((oM : Memref sig .tc .vmem S1x256x256 .bf16).view.loc (mate c : Thread nD τ))) (W : Waits sig Unit) :
    iprop(known m K ∗ wrkPts c (xs m c) ∗ outPts (mate c) f ∗ owes (c : Thread nD τ) (tallyAt (cell (mate c) 2) () N) W
        ∗ dutyTok EX (cell c 1) 0 () ∗ dutyTok EX (cell (mate c) 2) 0 ())
      ⊢ iprop(((cred (tallyAt (cell c 1) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma wM (.remote (Dev.tc n : Thread nD τ) oM (port 1) hsc) (port 2) hsrc hdst hsem) k) Q) := by
  subst hn
  refine BIBase.Entails.trans ?_ (Rounds.wp_send_pointsTo 𝒱₀ EX (plan m) (c : Thread nD τ) none (κ₁ := K (c, 1)) (κ₂ := K (mate c, 2))
    (r₁ := 0) (r₂ := 0) (d₁ := ()) (d₂ := ()) (fs := xs m c) (fd := f) (q := fullShare)
    (by rw [duties_on m c 1 h]; exact Finset.mem_singleton_self _) (by rw [duties_on m (mate c) 2 ((ha c).trans h)]; exact Finset.mem_singleton_self _)
    () () N rfl (amount_cell m c 1 ()) (amount_cell m (mate c) 2 ()) 0 (by rw [zero_add]) (W := W)
    (by rw [payload_cell]; exact BI.Entails.refl _)
    (by rw [payload_cell]; show _ ⊢ outPts (mate c) (xs m (mate (mate c))); rw [mate_mate, landed]; exact BI.Entails.refl _))
  unfold wrkPts outPts
  iintro ⟨#HK, Hw, Ho, HO, Ht1, Ht2⟩
  isplitr; · iapply (known_inv m K c 1); iexact HK
  isplitr; · iapply (known_inv m K (mate c) 2); iexact HK
  isplitl [Hw]; · iexact Hw
  isplitl [Ho]; · iexact Ho
  isplitl [HO]; · iexact HO
  isplitl [Ht1]; · iexact Ht1
  isplitr; · iapply (known_reached m K c 1); iexact HK
  isplitl [Ht2]; · iexact Ht2
  iapply (known_reached m K (mate c) 2); iexact HK

/-! ## The body -/

/-- What the body starts from: `ready` taken apart, the scratch buffer, its debts and the three staging buffers. -/
def bodyPre (K : Dev nD × Fin 3 → ℕ) (c : Dev nD) : sProp 𝕄 :=
  iprop((known m K ∗ held c ∗ (cred (tallyAt (cell c 0) () (due m c 0)) ∗ cred (tallyAt (cell c 2) () (due m c 2)))
      ∗ levAts lits level ∗ ∃ f, wrkPts c f)
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

/-- What the body ends with: scratch buffer and closed cells, no debt, inputs unchanged, result `res`. -/
def bodyPost (c : Dev nD) : sProp 𝕄 :=
  iprop(((∃ f, wrkPts c f) ∗ closed3 c) ∗ (dats m 0 c).owesAt () t0_0.succ
    ∗ stg c cc0_stg0_0 (xs m c) ∗ stg c cc0_stg1_0 (ps m c) ∗ stg c cc0_stg2_0 (res m c))

/-- The body's end: everything it holds, its result buffer at `res`, is `bodyPost`. -/
theorem body_end (c : Dev nD) (W : Waits sig Unit) (f : Buf (Elt F) ((c : Thread nD τ).loc cc0_stg2_0)) (hf : f = res m c) :
    iprop((∃ f, wrkPts c f) ∗ closed3 c ∗ owes (c : Thread nD τ) 0 W
        ∗ (((c : Thread nD τ).loc cc0_stg0_0) ↦{fullShare} xs m c) ∗ (((c : Thread nD τ).loc cc0_stg1_0) ↦{fullShare} ps m c)
        ∗ (((c : Thread nD τ).loc cc0_stg2_0) ↦{fullShare} f))
      ⊢ bodyPost m c := by
  subst hf
  unfold bodyPost Dat.owesAt Pipeline.owesWithin
  rw [show (dats m 0 c).owed t0_0.succ = 0 from rfl]
  iintro ⟨Hw, Hz, HO, Hx, Hp, Ho⟩
  isplitl [Hw Hz]; · isplitl [Hw] <;> iassumption
  isplitl [HO]
  · iexists W
    isplitr; · ipureintro; exact fun _ _ => Or.inl trivial
    iexact HO
  isplitl [Hx]
  · iexists _; isplitr; · (ipureintro; rfl)
    iexact Hx
  isplitl [Hp]
  · iexists _; isplitr; · (ipureintro; rfl)
    iexact Hp
  iexists _; isplitr; · (ipureintro; rfl)
  iexact Ho

set_option maxHeartbeats 1600000 in
/-- The body on device `c`, from `bodyPre` to `bodyPost`, where mates agree. -/
theorem body_run (ha : Agree m) (K : Dev nD × Fin 3 → ℕ) (c : Dev nD) (Q : PUnit → sProp 𝕄) :
    iprop(bodyPre m K c ∗ (bodyPost m c -∗ Q ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Q := by
  simp only [cc0_body_eq_skeleton]; unfold cc0_body_skel
  simp only [smemLoad, smemLoadElt, semSignalWord, semWaitWord, Prog.lift, Prog.bind_op, Prog.bind_ret, Prog.pure_eq_ret, Prog.bind_assoc, wp_deviceId]
  unfold bodyPre held
  iintro ⟨⟨⟨#HK, ⟨⟨H0, H1, H2⟩, T0, T1, T2⟩, ⟨C0, C2⟩, #Hl, ⟨%w, Hw⟩⟩, HO, ⟨%d0, %g0, %e0, Hx⟩, ⟨%d1, %g1, %e1, Hp⟩, ⟨%d2, %g2, %e2, Ho⟩⟩, Hk⟩
  have hx : g0 = xs m c := by rw [e0]; unfold Dat.before; rw [if_pos (fetch0_0 t0_0)]; rfl
  subst hx
  have hp : g1 = ps m c := by rw [e1]; unfold Dat.before; rw [if_pos (fetch0_1 t0_0)]; rfl
  subst hp
  unfold Dat.owesAt Pipeline.owesWithin
  icases HO with ⟨%W, %hW, HO⟩
  rw [show (dats m 0 c).owed t0_0.castSucc = debt m c from rfl]
  -- the word that decides
  iapply (wp_load 𝒱₀ (c : Thread nD τ) none Set.univ (m := pM) (Finset.subset_univ _)) $$ Hp; iintro Hp
  rw [read_p, flag]
  rcases (Bool.eq_false_or_eq_true (sw m c)).symm with hs | hs
  · -- the word is zero: the block is copied, and the cells, which have no duty, close
    rw [if_pos ((if_off _).mpr hs), if_neg (fun h => Bool.false_ne_true (hs.symm.trans ((if_on _).mp h))), debt_off m c hs]
    iapply (wp_load 𝒱₀ (c : Thread nD τ) none Set.univ (m := xM) (Finset.subset_univ _)) $$ Hx; iintro Hx
    rw [read_x, pay1_eq]
    iapply (wp_load 𝒱₀ (c : Thread nD τ) none Set.univ (m := oM) (Finset.subset_univ _)) $$ Ho; iintro Ho
    iapply (wp_store 𝒱₀ (c : Thread nD τ) none Set.univ (m := oM) (r := whole3) (Mk := Finset.univ) (Finset.subset_univ _)) $$ Ho; iintro Ho
    rw [write_o]
    imod (close m K c 0 fun k r _ => duties_off m c k hs r) $$ [H0 H1 H2] with Hz
    · isplitr; · iexact HK
      isplitl [H0]; · iexact H0
      isplitl [H1] <;> iassumption
    rw [wp_ret]; imodintro
    iapply Hk
    iapply (body_end m c W (xs m c) (by unfold res; rw [hs]; rfl))
    isplitl [Hw]; · iexists w; iexact Hw
    isplitl [Hz]; · iexact Hz
    isplitl [HO]; · iexact HO
    isplitl [Hx]; · iexact Hx
    isplitl [Hp] <;> iassumption
  · -- the word is nonzero: the mate exchanges too
    have hs' : sw m (mate c) = true := (ha c).trans hs
    rw [if_neg (fun h => Bool.false_ne_true (((if_off _).mp h).symm.trans hs)), if_pos ((if_on _).mpr hs), debt_on m c hs,
      show due m c 0 = 1 from if_pos hs, show due m c 2 = N from if_pos hs]
    -- the signal: the mate may write the result buffer
    rw [signal_to c]
    iapply (Rounds.wp_signal 𝒱₀ EX (plan m) (c : Thread nD τ) none (dst := (mate c : Thread nD τ)) (κ := K (mate c, 0)) (r := 0) (d := ())
        (by rw [duties_on m (mate c) 0 hs']; exact Finset.mem_singleton_self _) ((amount_cell m (mate c) 0 ()).trans (by decide))
        () (tallyAt (cell (mate c) 2) () N) rfl) $$ [HO T0 Ho]
    · isplitr; · iapply (known_inv m K (mate c) 0); iexact HK
      isplitl [HO]; · iexact HO
      isplitl [T0]; · iexact T0
      isplitl [Ho]
      · iapply (Entails.of_eq (bar_payload m c).symm)
        iexists g2; rw [outPts_eq]; iexact Ho
      iapply (known_reached m K (mate c) 0); iexact HK
    iintro HO
    -- the block into the scratch buffer
    iapply (wp_load 𝒱₀ (c : Thread nD τ) none Set.univ (m := xM) (Finset.subset_univ _)) $$ Hx; iintro Hx
    rw [read_x, pay2_eq]
    ihave Hw := (Entails.of_eq (wrkPts_eq c w)) $$ Hw
    iapply (wp_load 𝒱₀ (c : Thread nD τ) none Set.univ (m := wM) (Finset.subset_univ _)) $$ Hw; iintro Hw
    iapply (wp_store 𝒱₀ (c : Thread nD τ) none Set.univ (m := wM) (r := whole3) (Mk := Finset.univ) (Finset.subset_univ _)) $$ Hw; iintro Hw
    rw [write_w]
    ihave Hw := (Entails.of_eq (wrkPts_eq c (xs m c)).symm) $$ Hw
    -- the wait on the barrier: the mate's result buffer
    iapply (Rounds.wp_wait_rest_token 𝒱₀ EX (plan m) (c : Thread nD τ) none (κ := K (c, 0))
        (wpE_semWait_eq 𝒱₀ (c : Thread nD τ) none Set.univ) (Set.mem_univ _) () (O := tallyAt (cell (mate c) 2) () N) (W := W) (R := 0) (m := 0) (T := ∅)
        (by rw [expect_cell m c 0 hs]; decide)) $$ [C0 HO H0]
    · isplitr; · iapply (known_inv m K c 0); iexact HK
      isplitl [C0]; · iexact C0
      isplitl [HO]; · iexact HO
      isplitr; · iapply (wait_bar c); iexact Hl
      iexact H0
    iintro ⟨HO, H0, -, Hpay⟩
    ihave Hm := (Entails.of_eq (rest_cell m c 0 hs)) $$ Hpay
    icases (show pay m c 0 ⊢ iprop(∃ f, outPts (mate c) f) from BI.Entails.refl _) $$ Hm with ⟨%f, Hm⟩
    -- the transfer
    iapply (wp_transfer m K c _ (send_to c) hs ha f _) $$ [Hw Hm HO T1 T2]
    · isplitr; · iexact HK
      isplitl [Hw]; · iexact Hw
      isplitl [Hm]; · iexact Hm
      isplitl [HO]; · iexact HO
      isplitl [T1] <;> iassumption
    iintro ⟨C1, HO⟩
    -- the wait for its departure: the scratch buffer back
    iapply (Rounds.wp_wait_rest_token 𝒱₀ EX (plan m) (c : Thread nD τ) none (κ := K (c, 1))
        (wpE_waitDma2_eq 𝒱₀ (c : Thread nD τ) none Set.univ) (Set.mem_univ _) () (O := 0) (R := 0) (m := 0) (T := ∅)
        (by rw [Nat.zero_add, expect_cell m c 1 hs]; rfl)) $$ [C1 HO H1]
    · isplitr; · iapply (known_inv m K c 1); iexact HK
      isplitl [C1]; · iexact C1
      isplitl [HO]; · iexact HO
      isplitr; · rw [MayWait_zero]; iempintro
      iexact H1
    iintro ⟨HO, H1, -, Hpay⟩
    ihave Hw := (Entails.of_eq ((rest_cell m c 1 hs).trans (show pay m c 1 = wrkPts c (xs m c) from rfl))) $$ Hpay
    -- the wait for the arrival: the result buffer holding the mate's block
    iapply (Rounds.wp_wait_rest_token 𝒱₀ EX (plan m) (c : Thread nD τ) none (κ := K (c, 2))
        (wpE_waitDma2_eq 𝒱₀ (c : Thread nD τ) none Set.univ) (Set.mem_univ _) () (O := 0) (R := 0) (m := 0) (T := ∅)
        (by rw [Nat.zero_add, expect_cell m c 2 hs]; rfl)) $$ [C2 HO H2]
    · isplitr; · iapply (known_inv m K c 2); iexact HK
      isplitl [C2]; · iexact C2
      isplitl [HO]; · iexact HO
      isplitr; · rw [MayWait_zero]; iempintro
      iexact H2
    iintro ⟨HO, H2, -, Hpay⟩
    ihave Ho := (Entails.of_eq ((rest_cell m c 2 hs).trans ((show pay m c 2 = outPts c (xs m (mate c)) from rfl).trans (outPts_eq c _)))) $$ Hpay
    -- the cells close
    imod (close m K c (0 + 1) fun k r hr => duties_later m _ r hr) $$ [H0 H1 H2] with Hz
    · isplitr; · iexact HK
      isplitl [H0]; · iexact H0
      isplitl [H1] <;> iassumption
    rw [wp_ret]; imodintro
    iapply Hk
    iapply (body_end m c _ (xs m (mate c)) (by unfold res; rw [hs]; rfl))
    isplitl [Hw]; · iexists (xs m c); iexact Hw
    isplitl [Hz]; · iexact Hz
    isplitl [HO]; · iexact HO
    isplitl [Hx]; · iexact Hx
    isplitl [Hp] <;> iassumption

/-- The library's obligation of the body, on every device. -/
theorem body_ok (ha : Agree m) (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_eq_stg]
  show iprop((ready m c ∗ ∃ f, wrkPts c f) ∗ (dats m 0 c).owesAt () t0_0.castSucc
      ∗ (∃ d, stg c cc0_stg0_0 ((dats m 0 c).before (0 : Fin 3) t0_0 d))
      ∗ (∃ d, stg c cc0_stg1_0 ((dats m 0 c).before (1 : Fin 3) t0_0 d))
      ∗ (∃ d, stg c cc0_stg2_0 ((dats m 0 c).before (2 : Fin 3) t0_0 d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2)
      (fun _ => bodyPost m c)
  unfold ready
  iintro ⟨⟨⟨⟨%K, HK, Hh⟩, Hc, Hl⟩, Hw⟩, HO, Hx, Hp, Ho⟩
  iapply (body_run m ha K c fun _ => bodyPost m c)
  unfold bodyPre
  isplitr []
  · isplitl [HK Hh Hc Hl Hw]
    · isplitl [HK]; · iexact HK
      isplitl [Hh]; · iexact Hh
      isplitl [Hc]; · iexact Hc
      isplitl [Hl] <;> iassumption
    isplitl [HO]; · iexact HO
    isplitl [Hx]; · iexact Hx
    isplitl [Hp] <;> iassumption
  · iintro H; iexact H

end Cert.Swap

end
-- ==== Proof.Run.lean ====
/-
  The kernel's RUN on the eight devices, for any float values and any memory in which mates agree: every weakly fair
  execution ends with each device's result array at `res` — its mate's block of `x` where the devices exchange, its own
  where they do not — its arguments unchanged and every semaphore counter at zero (`run_kernel`).
-/
module

public import proofs.«01_k».proof.Proof.Body
public import Idealize.ShloMosaic.Lib.Pipeline.ValueKit
public import Idealize.ShloMosaic.Lib.Pipeline.CollectiveSegs

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ) (ρ : Dev nD → PrngReg)

/-! ## The ghost state minted at launch -/

/-- All twenty-four cells. -/
def cells : Finset (GSem nD τ sig) := Finset.univ.map ⟨fun ck : Dev nD × Fin 3 => cell ck.1 ck.2, fun a b h => Prod.ext (cell_inj.mp h).1 (cell_inj.mp h).2⟩
/-- One token for each cell. -/
def tokens : Finset (GSem nD τ sig × ℕ × Unit) :=
  Finset.univ.map ⟨fun ck : Dev nD × Fin 3 => (cell ck.1 ck.2, 0, ()), fun a b h =>
    have h' := congrArg Prod.fst h
    Prod.ext (cell_inj.mp h').1 (cell_inj.mp h').2⟩

/-- What is minted: the pipeline's cells and tokens, and the exchange's. -/
def minted : Ghost := (initOf (Pipeline.cells cfgs cellOf_inj) (Pipeline.launchToks cfgs cellOf_inj), initOf cells tokens)

omit [FloatOps F] in
/-- A product over three numbers, written out. -/
theorem three (Φ : Fin 3 → sProp 𝕄) : bigSep Finset.univ Φ = iprop(Φ 0 ∗ Φ 1 ∗ Φ 2) :=
  bigSep_univ_eq_bigSepL [0, 1, 2] (by decide) (by decide) Φ

/-- A device's own share of what is minted: its cells' records, its places, the round-0 marks and the tokens of its own
    cells' duties. -/
def share (c : Dev nD) : sProp 𝕄 :=
  iprop((bigSep Finset.univ fun k : Fin 3 => roundState EX (plan m) (cell c k) 0)
    ∗ (bigSep Finset.univ fun k : Fin 3 => atPos EX (cell c k) 0 ∅ 0)
    ∗ (bigSep Finset.univ fun k : Fin 3 => reached EX (cell c k) 0)
    ∗ (bigSep Finset.univ fun k : Fin 3 => dutyTok EX (cell c k) 0 ()))

omit [FloatOps F] in
/-- What is minted is every device's share. -/
theorem mint : BI.own (EX (initOf cells tokens)) ⊢ (|==> bigSep Finset.univ (share m) : sProp 𝕄) := by
  have hc (Φ : GSem nD τ sig → sProp 𝕄) : bigSep cells Φ = bigSep Finset.univ fun c : Dev nD => bigSep Finset.univ fun k : Fin 3 => Φ (cell c k) := by
    unfold cells; rw [bigSep_map, bigSep_univ_prod]; rfl
  have ht : bigSep tokens (fun x => (dutyTok EX x.1 x.2.1 x.2.2 : sProp 𝕄))
      = bigSep Finset.univ fun c : Dev nD => bigSep Finset.univ fun k : Fin 3 => dutyTok EX (cell c k) 0 () := by
    unfold tokens; rw [bigSep_map, bigSep_univ_prod]; rfl
  iintro H
  imod (Rounds.fund EX (plan m) cells tokens) $$ H with ⟨Hs, Hr, Ha, Ht⟩
  imodintro
  ihave Hs := (Entails.of_eq (hc fun g => roundState EX (plan m) g 0)) $$ Hs
  ihave Ha := (Entails.of_eq (hc fun g => atPos EX g 0 ∅ 0)) $$ Ha
  ihave Hr := (Entails.of_eq (hc fun g => reached EX g 0)) $$ Hr
  ihave Ht := (Entails.of_eq ht) $$ Ht
  unfold share; simp only [bigSep_sep']
  isplitl [Hs]; · iexact Hs
  isplitl [Ha]; · iexact Ha
  isplitl [Hr] <;> iassumption

/-! ## The semaphores become cells -/

omit [FloatOps F] in
/-- The launch's own two semaphores are the departure and the arrival. -/
theorem ownSems_eq (c : Dev nD) : (Pipeline.ownSems0 (Ix := Unit) (Name := ℕ) (U := Ghost) (Lvl := ℕ) (Val := Elt F) (τ := τ) ownPort c : sProp 𝕄)
    = iprop(semVal (cell c 1) 0 ∗ semVal (cell c 2) 0) := by
  rw [Pipeline.ownSems0_eq_of_list c ownPort [0, 1] (by decide) (by decide)]; rfl
omit [FloatOps F] in
/-- The one semaphore outside the launch is the barrier. -/
theorem barSem_eq (c : Dev nD) : (unscopedSems0 c : sProp 𝕄) = semVal (cell c 0) 0 := by
  unfold unscopedSems0; rw [bigSep_eq_bigSepL_of_eq [SemLoc.reg bar] (by decide) (by decide)]; rfl

/-- A device's share once its cells' invariants are allocated. -/
def opened (c : Dev nD) : sProp 𝕄 :=
  iprop((bigSep Finset.univ fun k : Fin 3 => iprop(∃ κ : ℕ, cellInv EX (plan m) κ (cell c k)))
    ∗ (bigSep Finset.univ fun k : Fin 3 => atPos EX (cell c k) 0 ∅ 0)
    ∗ (bigSep Finset.univ fun k : Fin 3 => reached EX (cell c k) 0)
    ∗ (bigSep Finset.univ fun k : Fin 3 => dutyTok EX (cell c k) 0 ()))

omit [FloatOps F] in
/-- A device's three semaphores at zero and its share open its cells. -/
theorem open_cells (c : Dev nD) :
    iprop(Pipeline.ownSems0 (Ix := Unit) (Name := ℕ) (U := Ghost) (Lvl := ℕ) (Val := Elt F) (τ := τ) ownPort c ∗ unscopedSems0 c ∗ share m c)
      ⊢ |={Set.univ}=> opened m c := by
  have hv : iprop((bigSep Finset.univ fun k : Fin 3 => semVal (cell c k) 0) ∗ bigSep Finset.univ fun k : Fin 3 => roundState EX (plan m) (cell c k) 0)
      ⊢ (|={Set.univ}=> bigSep Finset.univ fun k => iprop(∃ κ : ℕ, cellInv EX (plan m) κ (cell c k)) : sProp 𝕄) := by
    rw [← bigSep_sep']
    exact (bigSep_mono fun k _ => (Rounds.body_intro EX (plan m) (cell c k)).trans inv_alloc).trans (bigSep_fupd _ _)
  rw [ownSems_eq, barSem_eq]
  unfold share opened
  iintro ⟨⟨H1, H2⟩, H0, Hs, Hrest⟩
  imod hv $$ [H0 H1 H2 Hs] with Hi
  · isplitr [Hs]
    · rw [three]
      isplitl [H0]; · iexact H0
      isplitl [H1] <;> iassumption
    iexact Hs
  imodintro
  isplitl [Hi] <;> iassumption

omit [FloatOps F] in
/-- The tokens dealt out: of each device's three, the barrier's and the arrival's go to its mate. -/
theorem deal : (bigSep Finset.univ fun c : Dev nD => bigSep Finset.univ fun k : Fin 3 => (dutyTok EX (cell c k) 0 () : sProp 𝕄))
    ⊢ bigSep Finset.univ fun c : Dev nD => iprop(dutyTok EX (cell (mate c) 0) 0 () ∗ dutyTok EX (cell c 1) 0 () ∗ dutyTok EX (cell (mate c) 2) 0 ()) := by
  simp only [three, bigSep_sep']
  rw [bigSep_univ_equiv mates (fun c : Dev nD => (dutyTok EX (cell c 0) 0 () : sProp 𝕄)),
    bigSep_univ_equiv mates (fun c : Dev nD => (dutyTok EX (cell c 2) 0 () : sProp 𝕄))]
  exact BI.Entails.refl _

/-- What the body starts from, but for credit and levels. -/
def dealt (c : Dev nD) : sProp 𝕄 := iprop(∃ K, known m K ∗ held c)

omit [FloatOps F] in
/-- All devices' opened shares, dealt out. -/
theorem deal_all : (bigSep Finset.univ (opened m) : sProp 𝕄) ⊢ bigSep Finset.univ (dealt m) := by
  unfold opened
  simp only [bigSep_sep']
  rw [← bigSep_univ_prod (fun ck : Dev nD × Fin 3 => iprop(∃ κ : ℕ, cellInv EX (plan m) κ (cell ck.1 ck.2))),
    ← bigSep_univ_prod (fun ck : Dev nD × Fin 3 => (reached EX (cell ck.1 ck.2) 0 : sProp 𝕄))]
  iintro ⟨Hi, Ha, Hr, Ht⟩
  ihave Ha := (Entails.of_eq (bigSep_congr fun (c : Dev nD) _ => three fun k => (atPos EX (cell c k) 0 ∅ 0 : sProp 𝕄))) $$ Ha
  ihave Hi := (BI.bigSep_exists_pi Finset.univ (fun (ck : Dev nD × Fin 3) (κ : ℕ) => (cellInv EX (plan m) κ (cell ck.1 ck.2) : sProp 𝕄))) $$ Hi
  icases Hi with ⟨%K, Hi⟩
  ihave Ht := (deal (F := F)) $$ Ht
  have hstep : iprop(known m K ∗ bigSep Finset.univ fun c : Dev nD => held (F := F) c) ⊢ bigSep Finset.univ (dealt m) :=
    (sep_mono_left (BI.bigSep_of_persistent Finset.univ (known m K))).trans (by
      rw [← bigSep_sep']
      refine bigSep_mono fun c _ => ?_
      exact exists_intro (Φ := fun K => iprop(known m K ∗ held c)) K)
  iapply hstep
  isplitl [Hi Hr]
  · unfold known; isplitl [Hi] <;> iassumption
  · iapply (Entails.of_eq (bigSep_sep' Finset.univ (fun c : Dev nD => iprop(atPos EX (cell c 0) 0 ∅ 0 ∗ atPos EX (cell c 1) 0 ∅ 0 ∗ atPos EX (cell c 2) 0 ∅ 0))
      (fun c : Dev nD => (iprop(dutyTok EX (cell (mate c) 0) 0 () ∗ dutyTok EX (cell c 1) 0 () ∗ dutyTok EX (cell (mate c) 2) 0 ()) : sProp 𝕄))).symm)
    isplitl [Ha]
    · iexact Ha
    · iexact Ht

omit [FloatOps F] in
/-- The launch's one step for all devices: semaphores and shares become what each body starts from. -/
theorem global : (bigSep Finset.univ fun c => iprop(Pipeline.ownSems0 (Ix := Unit) (Name := ℕ) (U := Ghost) (Lvl := ℕ) (Val := Elt F) (τ := τ) ownPort c
      ∗ unscopedSems0 c ∗ share m c) : sProp 𝕄) ⊢ |={Set.univ}=> bigSep Finset.univ (dealt m) :=
  ((bigSep_mono fun c _ => open_cells m c).trans (bigSep_fupd _ _)).trans (BI.fupd_mono (deal_all m))

/-! ## The launch's credit -/

omit [FloatOps F] in
/-- Device `d` owes cell `k` of device `c` its due if it is the mate of `c`, and nothing otherwise (`k` a barrier or an
    arrival). -/
theorem debt_at (d c : Dev nD) (k : Fin 3) (hk : k ≠ 1) : debt m d (cell c k) () = if d = mate c then due m d k else 0 := by
  have hm : (c = mate d) = (d = mate c) := propext ⟨fun h => by rw [h, mate_mate], fun h => by rw [h, mate_mate]⟩
  unfold debt
  rw [Pi.add_apply, Finsupp.add_apply, tallyAt_apply, tallyAt_apply]
  by_cases h : d = mate c
  · have h' : cell c k = cell (mate d) k := by rw [hm.symm.mp h]
    have hne {j : Fin 3} (hj : k ≠ j) : cell c k ≠ cell (mate d) j := fun e => hj (cell_inj.mp e).2
    rw [if_pos h]
    match k, hk with
    | 0, _ => rw [if_neg (by simpa using hne (j := 2) (by decide)), if_pos (by simpa using h'), zero_add]
    | 2, _ => rw [if_pos (by simpa using h'), if_neg (by simpa using hne (j := 0) (by decide)), add_zero]
  · have hne (j : Fin 3) : ¬ (cell c k = cell (mate d) j) := fun e => h (hm.mp (cell_inj.mp e).1)
    rw [if_neg (fun e => hne 2 e.1), if_neg (fun e => hne 0 e.1), if_neg h]

omit [FloatOps F] in
/-- So where mates agree the launch deals each device its own dues. -/
theorem credit_at (ha : Agree m) (c : Dev nD) (k : Fin 3) (hk : k ≠ 1) :
    tallyOn (cell c k) (launchCredit (Pipeline.owing (debt m)) 0 (cell c k)) = (tallyAt (cell c k) () (due m c k) : CellTallies nD τ sig Unit) := by
  unfold tallyAt; refine congrArg _ (Finsupp.ext fun u => ?_); cases u
  rw [Pipeline.launchCredit_owing, Finsupp.single_eq_same, Finset.sum_congr rfl fun d _ => debt_at m d c k hk,
    Finset.sum_ite_eq' Finset.univ (mate c) fun d => due m d k, if_pos (Finset.mem_univ _)]
  unfold due; rw [ha c]

omit [FloatOps F] in
/-- Of the launch's credit a device takes its barrier's and its arrival's. -/
theorem credits (ha : Agree m) (c : Dev nD) :
    (Pipeline.launchCred (debt m) c : sProp 𝕄) ⊢ iprop(cred (tallyAt (cell c 0) () (due m c 0)) ∗ cred (tallyAt (cell c 2) () (due m c 2))) := by
  unfold Pipeline.launchCred
  rw [bigSep_univ_at _ (port 0), credit_at m ha c 0 (by decide), ← credit_at m ha c 2 (by decide)]
  exact sep_mono_right (bigSep_elim (Finset.mem_erase.mpr ⟨fun h => absurd (port_inj h) (by decide), Finset.mem_univ _⟩))

/-! ## The launch theorem's side conditions -/

/-- The two are semaphores of the launch and none of the pipeline's. -/
theorem ownSemFacts : Pipeline.OwnSemFacts cfg0.spec ownPort := by decide

omit [FloatOps F] in
/-- A device's dealt share, its credit and the levels make it `ready`. -/
theorem begin_ok (ha : Agree m) (c : Dev nD) :
    iprop(Pipeline.unscopedRestP Pipeline.Prefetch.none cfg0.spec c (fun b => m ((c : Thread nD τ).loc b)) ∗ levAts lits level
        ∗ Pipeline.launchCred (debt m) c ∗ prngReg c (ρ c) ∗ dealt m c)
      ⊢ |={Set.univ}=> iprop(ready m c ∗ emp) := by
  iintro ⟨-, Hl, Hc, -, Hd⟩
  ihave Hc := (credits m ha c) $$ Hc
  imodintro
  unfold ready dealt
  isplitl
  · isplitl [Hd]; · iexact Hd
    isplitl [Hc] <;> iassumption
  · iempintro

/-- With the scratch buffer that is what the body starts from. -/
theorem enter_ok (c : Dev nD) :
    iprop(ready m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(ready m c ∗ ∃ f, wrkPts c f) from rfl, scopedRest0_eq]
  iintro ⟨Hs, -, ⟨%f, Hw⟩⟩
  isplitl [Hs]; · iexact Hs
  iexists f; rw [wrkPts_eq]; iexact Hw

/-- What the body leaves gives back the semaphores and the scratch buffer. -/
theorem leave_ok (c : Dev nD) :
    (dats m 0 c).Φ (Fin.last cfg0.N) ⊢ iprop(unscopedSems0 c ∗ Pipeline.ownSems0 ownPort c ∗ Pipeline.scopedRest cfg0.spec c) := by
  rw [show (dats m 0 c).Φ (Fin.last cfg0.N) = iprop((∃ f, wrkPts c f) ∗ closed3 c) from rfl, scopedRest0_eq, ownSems_eq, barSem_eq]
  unfold closed3
  iintro ⟨⟨%f, Hw⟩, H0, H1, H2⟩
  isplitl [H0]; · iexact H0
  isplitl [H1 H2]
  · isplitl [H1] <;> iassumption
  iexists f; rw [← wrkPts_eq]; iexact Hw

/-- The pipeline's own waits are below what the device owes. -/
theorem waits_ok (c : Dev nD) : (levAts lits level : sProp 𝕄) ⊢ Pipeline.cellsWaits cfgs (dats m) () 0 c :=
  Pipeline.cellsWaits_intro cfgs (dats m) () 0 c fun w s t =>
    wait_stage m c _ (by fin_cases w <;> fin_cases s <;> decide) _ (by
      rcases t with ⟨_ | _, ht⟩
      · exact Or.inl rfl
      · exact Or.inr rfl)

/-! ## The run -/

set_option maxRecDepth 8000 in
/-- The run, read at the windows' arrays. -/
theorem run_arrays (ha : Agree m) : θ_run defs (onTc (τ := τ) (main (F := F))) ⟨m, fun _ => 0, ρ⟩ (fun r =>
    (∀ (c : Dev nD) (w : Fin cfg0.W), r.2.mem ((cfg0.win w).arr.view.loc (c : Thread nD τ)) = (dats m 0 c).arrAt w cfg0.N)
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_ok m ha) (hne := block_pos0) (harr := arr_whole0) (hstage := stage_whole0)
    (hshare := fun c w => by unfold Dat.share; split <;> rfl)
    (hdistinct := winFacts0.arr_inj)
    (O₀ := debt m) (howed₀ := fun _ => rfl) (howedN := fun _ => rfl)
    (L := lits) (lv := level) (hL := lits_off) (hwaits := waits_ok m)
    (G := share m) (G' := dealt m) (u₀ := minted)
    (hu₀ := by
      unfold minted
      iintro Hu
      ihave H := (ownU_pair _ _) $$ Hu
      icases H with ⟨HP, HX⟩
      imod (mint m) $$ HX with HG
      imodintro
      isplitl [HP] <;> iassumption)
    (hglob := global m)
    (hA := fun _ _ => rfl) (hpf := fun _ k => k.elim0)
    (X := ready m) (Y := fun c => unscopedSems0 c) (Z := fun _ => iprop(emp))
    (hX := begin_ok m ρ ha) (hin := enter_ok m) (hout := leave_ok m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays -/

/-- The windows' block indices at the one point (decided). -/
theorem index_zero : ∀ t : Fin grid0.N, win0_0.index t = ![0, 0, 0] ∧ win0_1.index t = ![0] := by decide +kernel

omit [FloatOps F] in
/-- The staged block of `x` is the argument array, whole. -/
theorem xs_eq (c : Dev nD) : xs m c = m ((c : Thread nD τ).loc main_arg0) := by
  blk_ext! [xs, index_zero (0 : Fin 1)]
omit [FloatOps F] in
/-- The word read off the staged copy is the argument's first. -/
theorem word_eq (c : Dev nD) : word m c = (m ((c : Thread nD τ).loc main_arg1) first : BitVec 32) := by
  have h : ps m c = m ((c : Thread nD τ).loc main_arg1) := by blk_ext! [ps, index_zero (0 : Fin 1)]
  unfold word; rw [h]

/-- The result array ends at `res`. -/
theorem arr_res (c : Dev nD) : (dats m 0 c).arrAt (2 : Fin 3) cfg0.N = (res m c : Buf (Elt F) ((c : Thread nD τ).loc main_v1)) := by
  refine (dats m 0 c).arrAt_eq_of_after_last 2 t0_0 (by decide +kernel) _ fun j => ?_
  blk_simp
  rfl

/-- The run: every weakly fair execution ends, each device's result array at `res`, its arguments unchanged, every semaphore
    counter zero. -/
theorem run_kernel (ha : Agree m) : θ_run defs (onTc (τ := τ) (main (F := F))) ⟨m, fun _ => 0, ρ⟩ (fun r =>
    (∀ c : Dev nD, r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c 2).trans (arr_res m c), (h.1 c 0).trans ((dats m 0 c).arrAt_in (0 : Fin 3) rfl _),
    (h.1 c 1).trans ((dats m 0 c).arrAt_in (1 : Fin 3) rfl _)⟩, h.2⟩) (run_arrays m ρ ha)

end Cert.Swap

end
-- ==== Proof.Rows.lean ====
/-
  The mathematics of `x[argsort(pi)]` for a `pi` of two words, with no program in it: the argsort of two words is [1, 0] if
  the second sorts strictly before the first and [0, 1] if not (`argsort_at`), and indexing an array of two rows with it
  exchanges the rows or leaves them (`indexed`).
-/
module

public import Idealize.ShloMosaic.PureOps

@[expose] public section

namespace Cert.Swap.Rows

open Idealize.ShloMosaic

/-- Two words. -/
abbrev Two : Shape := ⟨1, ![2]⟩
/-- Two start indices, of one word each. -/
abbrev TwoOne : Shape := ⟨2, ![2, 1]⟩
/-- Two rows of 256 by 256. -/
abbrev Whole : Shape := ⟨3, ![2, 256, 256]⟩

/-- Row `k`, or the other row. -/
def turn (s : Bool) (k : Fin 2) : Fin 2 := if s then 1 - k else k

/-- The index of `Two` at `k`. -/
def at1 (k : Fin 2) : Two.Idx := fun a => match a with | ⟨0, _⟩ => k

/-- Every index of `Two` is one of these. -/
theorem at1_eta (j : Two.Idx) : at1 (j 0) = j := funext fun a => match a with | ⟨0, _⟩ => rfl

/-- The array with its two rows exchanged, or as it is. -/
def turned {α : Type} (s : Bool) (x : Whole.Idx → α) : Whole.Idx → α :=
  fun i => x fun a => match a with
    | ⟨0, _⟩ => turn s (i 0)
    | ⟨1, _⟩ => i 1
    | ⟨2, _⟩ => i 2

/-- An entry of one of the two orders of two positions. -/
theorem get_turn (s : Bool) (l : List (Fin 2)) (hl : l = if s then [1, 0] else [0, 1]) (k : Fin 2) (h : k.val < l.length) :
    l.get ⟨k.val, h⟩ = turn s k := by
  subst hl
  cases s <;> (revert k; decide)

/-- A stable sort of two positions exchanges them exactly if the second goes strictly before the first. -/
theorem sortedFrom_two (before : Fin 2 → Fin 2 → Bool) (k : Fin 2) : sortedFrom before k = turn (before 1 0) k :=
  get_turn (before 1 0) (sortPositions 2 before) rfl k _

variable (cmp : BitVec 32 × BitVec 32 → BitVec 32 × BitVec 32 → BitVec 1) (pi : IVec Two 32)

/-- Whether the sort exchanges the two words of `pi`. -/
def turns : Bool := cmp (pi (at1 1), 1#32) (pi (at1 0), 0#32) == 1#1

/-- The argsort of two words, at a position: the position's own number or the other. -/
theorem argsort_at (j : Two.Idx) :
    (Host.sort2 Two 0 cmp pi (iotaInDim Two 32 0)).2 j = BitVec.ofNat 32 (turn (turns cmp pi) (j 0)).val := by
  have e (k : Fin 2) : j.along 0 k = at1 k := funext fun a => match a with | ⟨0, _⟩ => rfl
  let before : Fin 2 → Fin 2 → Bool := fun k k' => cmp (pi (j.along 0 k), iotaInDim Two 32 0 (j.along 0 k))
    (pi (j.along 0 k'), iotaInDim Two 32 0 (j.along 0 k')) == 1#1
  have hb : before 1 0 = turns cmp pi := by
    show (cmp (pi (j.along 0 (1 : Fin 2)), iotaInDim Two 32 0 (j.along 0 (1 : Fin 2)))
      (pi (j.along 0 (0 : Fin 2)), iotaInDim Two 32 0 (j.along 0 (0 : Fin 2))) == 1#1) = _
    rw [e, e]; rfl
  have hs : sortedFrom before (j 0) = turn (turns cmp pi) (j 0) := hb ▸ sortedFrom_two before (j 0)
  exact congrArg (fun k : Fin 2 => BitVec.ofNat 32 k.val) hs

/-- Negative indices count from the end: the fix-up that precedes the indexing. -/
def fixed (a zero two : IVec Two 32) : IVec Two 32 := select (cmpi .slt a zero) (addi a two) a

/-- The fix-up leaves the numbers of rows alone. -/
theorem fixed_at (s : Bool) (a : IVec Two 32) (j : Two.Idx) (h : a j = BitVec.ofNat 32 (turn s (j 0)).val) :
    fixed a (fun _ => 0#32) (fun _ => 2#32) j = BitVec.ofNat 32 (turn s (j 0)).val := by
  show (if IntOp.cmpi .slt (a j) 0#32 = 1#1 then IntOp.addi (a j) 2#32 else a j) = _
  rw [h]
  generalize turn s (j 0) = k
  revert k; decide

/-- The two words as a column. -/
theorem column_at (bi : Two.BroadcastsInDim TwoOne ![0]) (s : Bool) (v : IVec Two 32) (h : ∀ j, v j = BitVec.ofNat 32 (turn s (j 0)).val) (b : TwoOne.Idx) :
    broadcastInDim TwoOne ![0] bi v b = BitVec.ofNat 32 (turn s (b 0)).val :=
  h _

/-- The conditions on the dimension numbers of the indexing. -/
abbrev RowWF : Prop := GatherDims.WF Whole TwoOne Whole [1, 2] [0] [] [0] [] 1 ![1, 256, 256]

/-- The dimension numbers of the indexing: whole rows, by one start index each. -/
abbrev rowDims (wf : RowWF) : GatherDims Whole TwoOne Whole where
  offsetDims := [1, 2]
  collapsedSliceDims := [0]
  operandBatchingDims := []
  startIndicesBatchingDims := []
  startIndexMap := [0]
  indexVectorDim := 1
  sliceSizes := ![1, 256, 256]
  wf := wf

/-- Indexing the rows at indices that are the rows' numbers, in order or exchanged. -/
theorem gather_rows {α : Type} (wf : RowWF) (s : Bool) (x : Whole.Idx → α) (idx : IVec TwoOne 32)
    (h : ∀ b : TwoOne.Idx, idx b = BitVec.ofNat 32 (turn s (b 0)).val) : Host.gather (rowDims wf) x idx = turned s x := by
  funext i
  unfold Host.gather turned
  refine congrArg x (funext fun a => Fin.ext ?_)
  match a with
  | ⟨0, _⟩ =>
    show (rowDims wf).start i idx 0 + 0 + 0 = (turn s (i 0)).val
    unfold GatherDims.start
    rw [dif_pos (show (0 : Fin 3) ∈ (rowDims wf).startIndexMap from List.mem_singleton.mpr rfl), h]
    show min (BitVec.ofNat 32 (turn s (i 0)).val).toInt.toNat 1 + 0 + 0 = _
    generalize turn s (i 0) = k
    revert k; decide
  | ⟨1, _⟩ => show 0 + 0 + (i 1).val = (i 1).val; omega
  | ⟨2, _⟩ => show 0 + 0 + (i 2).val = (i 2).val; omega

/-- `x[argsort(pi)]` as it is printed: argsort, fix-up, the indices one per row, the indexing. -/
def indexed {α : Type} (wf : RowWF) (bz : (⟨0, ![]⟩ : Shape).BroadcastsInDim Two ![]) (bi : Two.BroadcastsInDim TwoOne ![0]) (x : Whole.Idx → α) : Whole.Idx → α :=
  Host.gather (rowDims wf) x (broadcastInDim TwoOne ![0] bi
    (fixed (Host.sort2 Two 0 cmp pi (iotaInDim Two 32 0)).2 (broadcastInDim Two ![] bz (constantI ⟨0, ![]⟩ 32 0#32)) (broadcastInDim Two ![] bz (constantI ⟨0, ![]⟩ 32 2#32))))

/-- It exchanges the rows of `x` if the second word of `pi` sorts strictly before the first, and is `x` if not. -/
theorem indexed_eq {α : Type} (wf : RowWF) (bz : (⟨0, ![]⟩ : Shape).BroadcastsInDim Two ![]) (bi : Two.BroadcastsInDim TwoOne ![0])
    (x : Whole.Idx → α) : indexed cmp pi wf bz bi x = turned (turns cmp pi) x := by
  exact gather_rows wf _ x _ fun b => column_at bi _ _ (fun j => fixed_at (turns cmp pi) _ j (argsort_at cmp pi j)) b

end Cert.Swap.Rows
-- ==== Proof.Values.lean ====
/-
  The kernel's result against the whole arrays: what the two preconditions say of the words of `pi` (`Reads`), and the run
  from blocks of one array `v` and copies of one `pi` — each device's result is its block of `v` with the rows exchanged, or
  of `v` itself (`run_values`).
-/
module

public import proofs.«01_k».proof.Proof.Run
public import proofs.«01_k».proof.Proof.Rows
public import proofs.«01_k».proof.Proof.Gen.Pre_swaps_Kernel
public import proofs.«01_k».proof.Proof.Gen.Pre_stays_Kernel

@[expose] public section

noncomputable section

namespace Cert.Swap

open Cert.KernelIdeal Cert.KernelIdeal.Gen
open Idealize.ShloMosaic Idealize.ShloMosaic.TcCoe Idealize.SL.Sem

/-! ## The preconditions -/

/-- The words of `pi` say `s`: the first is nonzero, and the second sorts strictly before it, both exactly if `s`. -/
def Reads (s : Bool) (pi : IVec Rows.Two 32) : Prop :=
  (pi (Rows.at1 0) != 0#32) = s ∧ (IntOp.cmpi .slt (pi (Rows.at1 1)) (pi (Rows.at1 0)) == 1#1) = s

/-- The one index of a rank-0 array. -/
def nil : (⟨0, ![]⟩ : Shape).Idx := fun a => a.elim0

/-- The one index of an array of one word. -/
def only : (⟨1, ![1]⟩ : Shape).Idx := fun a => match a with | ⟨0, _⟩ => (0 : Fin 1)

/-- What an array of one word holds at that index it holds at every index. -/
theorem of_only (v : IVec ⟨1, ![1]⟩ 32) (w : BitVec 32) (h : v only = w) (i : (⟨1, ![1]⟩ : Shape).Idx) : v i = w :=
  (congrArg v (funext fun a => match a with | ⟨0, _⟩ => Subsingleton.elim (α := Fin 1) _ _)).trans h

/-- A conjunction of two truth values that holds gives both. -/
theorem both (p q : Bool) : IntOp.andi (BitVec.ofBool p) (BitVec.ofBool q) = 1#1 → p = true ∧ q = true := by
  revert p q; decide

variable {F : FTy → Type} [FloatOps F]

/-- `swaps` where it holds. -/
theorem reads_of_swaps (x : FVec F Cert.Pre_swaps_Kernel.S1x256x256 .bf16) (pi : IVec Rows.Two 32)
    (h : Cert.Pre_swaps_Kernel.fn x pi = fun _ => 1#1) : Reads true pi := by
  have h0 : shapeCast Cert.Pre_swaps_Kernel.S_ ((extractStridedSlice Cert.Pre_swaps_Kernel.S1 ![0] · Cert.Pre_swaps_Kernel.Facts.slices_S2_S1_0) pi)
      Cert.Pre_swaps_Kernel.Facts.shapeCasts_S1_S_ nil = pi (Rows.at1 0) :=
    of_only _ _ (congrArg pi (funext fun a => by fin_cases a; rfl)) _
  have h1 : shapeCast Cert.Pre_swaps_Kernel.S_ ((extractStridedSlice Cert.Pre_swaps_Kernel.S1 ![1] · Cert.Pre_swaps_Kernel.Facts.slices_S2_S1_1) pi)
      Cert.Pre_swaps_Kernel.Facts.shapeCasts_S1_S_ nil = pi (Rows.at1 1) :=
    of_only _ _ (congrArg pi (funext fun a => by fin_cases a; rfl)) _
  have e : IntOp.andi (IntOp.cmpi .ne (pi (Rows.at1 0)) 0#32) (IntOp.cmpi .slt (pi (Rows.at1 1)) (pi (Rows.at1 0))) = 1#1 := by
    rw [← h0, ← h1]; exact congrFun h nil
  obtain ⟨e0, e1⟩ := both _ _ e
  exact ⟨e0, by show (BitVec.ofBool _ == 1#1) = true; rw [e1]; rfl⟩

/-- `stays` where it holds. -/
theorem reads_of_stays (x : FVec F Cert.Pre_stays_Kernel.S1x256x256 .bf16) (pi : IVec Rows.Two 32)
    (h : Cert.Pre_stays_Kernel.fn x pi = fun _ => 1#1) : Reads false pi := by
  have h0 : shapeCast Cert.Pre_stays_Kernel.S_ ((extractStridedSlice Cert.Pre_stays_Kernel.S1 ![0] · Cert.Pre_stays_Kernel.Facts.slices_S2_S1_0) pi)
      Cert.Pre_stays_Kernel.Facts.shapeCasts_S1_S_ nil = pi (Rows.at1 0) :=
    of_only _ _ (congrArg pi (funext fun a => by fin_cases a; rfl)) _
  have h1 : shapeCast Cert.Pre_stays_Kernel.S_ ((extractStridedSlice Cert.Pre_stays_Kernel.S1 ![1] · Cert.Pre_stays_Kernel.Facts.slices_S2_S1_1) pi)
      Cert.Pre_stays_Kernel.Facts.shapeCasts_S1_S_ nil = pi (Rows.at1 1) :=
    of_only _ _ (congrArg pi (funext fun a => by fin_cases a; rfl)) _
  have e : IntOp.andi (IntOp.cmpi .eq (pi (Rows.at1 0)) 0#32) (IntOp.cmpi .sge (pi (Rows.at1 1)) 0#32) = 1#1 := by
    rw [← h0, ← h1]; exact congrFun h nil
  obtain ⟨e0, e1⟩ := both _ _ e
  have e0 : pi (Rows.at1 0) = 0#32 := eq_of_beq e0
  have e1 : (0#32).sle (pi (Rows.at1 1)) = true := e1
  refine ⟨by rw [e0]; rfl, ?_⟩
  show (BitVec.ofBool ((pi (Rows.at1 1)).slt (pi (Rows.at1 0))) == 1#1) = false
  rw [e0, show (pi (Rows.at1 1)).slt 0#32 = false by rw [BitVec.sle_eq_not_slt] at e1; simpa using e1]
  rfl

/-! ## The run, by what `pi` says -/

variable (m : (ℓ : Loc nD τ sig) → Buf (Elt F) ℓ) (ρ : Dev nD → PrngReg)

omit [FloatOps F] in
/-- Where a device's `pi` says `s`, its flag is `s`. -/
theorem sw_of_reads (s : Bool) (c : Dev nD) (h : Reads s (m ((c : Thread nD τ).loc main_arg1))) : sw m c = s := by
  have e : (m ((c : Thread nD τ).loc main_arg1) first : BitVec 32) = m ((c : Thread nD τ).loc main_arg1) (Rows.at1 0) :=
    congrArg (m ((c : Thread nD τ).loc main_arg1)) (funext fun a => match a with | ⟨0, _⟩ => rfl)
  unfold sw
  rw [word_eq, e]
  exact h.1

/-- From any memory in which every device's `pi` says `s`: the run, each device's result its mate's block or its own. -/
theorem run_reads (s : Bool) (h : ∀ c : Dev nD, Reads s (m ((c : Thread nD τ).loc main_arg1))) :
    θ_run defs (onTc (τ := τ) (main (F := F))) ⟨m, fun _ => 0, ρ⟩ (fun r =>
      (∀ c : Dev nD, r.2.mem ((c : Thread nD τ).loc main_v1) = m (((if s then mate c else c : Dev nD) : Thread nD τ).loc main_arg0)
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) := by
  have hs (c : Dev nD) : sw m c = s := sw_of_reads m s c (h c)
  refine (θ_run defs _ _).mono (fun r hr => ⟨fun c => ⟨(hr.1 c).1.trans ?_, (hr.1 c).2⟩, hr.2⟩)
    (run_kernel m ρ fun c => (hs (mate c)).trans (hs c).symm)
  unfold res
  rw [hs c, xs_eq, xs_eq]
  cases s <;> rfl

/-! ## Against the whole arrays -/

/-- The block of an array of two rows that a device holds. -/
abbrev block {α : Type} (c : Dev nD) (v : Rows.Whole.Idx → α) : (⟨3, ![1, 256, 256]⟩ : Shape).Idx → α :=
  Layout.blockN ⟨3, ![1, 256, 256]⟩ ⟨3, ![2, 256, 256]⟩ (Layout.meshBlock [2, 2, 2] ![[1], [], []] c) v

/-- A device's row of the array with its rows exchanged is its mate's row of the array. -/
theorem block_turned {α : Type} (s : Bool) (c : Dev nD) (v : Rows.Whole.Idx → α) : block c (Rows.turned s v) = block (if s then mate c else c) v := by
  have hm : ∀ (s : Bool) (c : Dev nD) (k : Fin 1), (Rows.turn s ⟨Layout.meshLin [2, 2, 2] c.val [1] * 1 + k.val, by revert c k; decide⟩).val
      = Layout.meshLin [2, 2, 2] (if s then mate c else c).val [1] * 1 + k.val := by decide
  funext i
  unfold block Rows.turned
  rw [Layout.blockN_apply, Layout.blockN_apply]
  refine congrArg v (funext fun a => Fin.ext ?_)
  match a with
  | ⟨0, _⟩ => exact hm s c (i 0)
  | ⟨1, _⟩ => rfl
  | ⟨2, _⟩ => rfl

/-- From blocks of one array `v` and copies of one `pi` that says `s`: each device's result is its block of `v` with the rows
    exchanged if `s`, of `v` if not. -/
theorem run_values (s : Bool) (v : Rows.Whole.Idx → F .bf16) (pi : IVec Rows.Two 32) (hs : Reads s pi)
    (hm : ∀ c : Dev nD, m ((c : Thread nD τ).loc main_arg0) = block c v ∧ m ((c : Thread nD τ).loc main_arg1) = pi) :
    θ_run defs (onTc (τ := τ) (main (F := F))) ⟨m, fun _ => 0, ρ⟩ (fun r => ∀ c : Dev nD,
      r.2.mem ((c : Thread nD τ).loc main_v1) = block c (Rows.turned s v)
        ∧ r.2.mem ((c : Thread nD τ).loc main_arg0) = m ((c : Thread nD τ).loc main_arg0)
        ∧ r.2.mem ((c : Thread nD τ).loc main_arg1) = m ((c : Thread nD τ).loc main_arg1)) :=
  (θ_run defs _ _).mono (fun r hr c => ⟨((hr.1 c).1.trans (hm _).1).trans (block_turned s c v).symm, (hr.1 c).2⟩)
    (run_reads m ρ s fun c => (hm c).2 ▸ hs)

end Cert.Swap

end
-- ==== Proof.Printed.lean ====
/-
  The kernel as printed for words and as printed for exact floats are one program: the two texts are the same, so a run of
  the one is a run of the other (`run_printed`), at any float values.
-/
module

public import proofs.«01_k».proof.Proof.Gen.Kernel
public import proofs.«01_k».proof.Proof.Gen.KernelIdeal
public import Idealize.ShloMosaic.Adequacy

@[expose] public section

noncomputable section

namespace Cert.Swap

open Idealize.ShloMosaic Idealize.ShloMosaic.TcCoe Idealize.SL.Sem

variable (F : FTy → Type) [FloatOps F]

/-- The two body tables are equal: at the one label, the same body. -/
theorem bodies_eq : Cert.Kernel.defs₀ (F := F) = Cert.KernelIdeal.defs₀ (F := F) := by
  funext κ a x
  match κ, a, x with
  | .tc, ⟨0, _⟩, (t, v) => rfl
  | .tc, ⟨_ + 1, h⟩, _ => exact absurd h (Nat.not_lt.2 (Nat.le_add_left _ _))
  | .scVector _ _, _, _ => rfl
  | .scScalar _, _, _ => rfl

/-- So are the tables with the pipelines', -/
theorem defs_eq : Cert.Kernel.defs (F := F) = Cert.KernelIdeal.defs (F := F) :=
  congrArg (Pipeline.defs (Cert.KernelIdeal.pcfgs (F := F))) (bodies_eq F)

/-- and so are the programs. -/
theorem main_eq : Cert.Kernel.main (F := F) = Cert.KernelIdeal.main (F := F) := rfl

/-- A run of the one is a run of the other. -/
theorem run_printed (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := by
  rw [defs_eq, main_eq]
  exact h

end Cert.Swap

end
-- ==== Proof.Ref.lean ====
/-
  The two REFERENCE programs' runs and values: `x[argsort(pi)]` on one device, with `reference.py`'s cast (`Cert.ReferenceIdeal`)
  and without any cast (`Cert.Words`). Both index `x` by the argsort of `pi`; what that is for two words is in Rows.lean.
-/
module

public import proofs.«01_k».proof.Proof.Rows
public import proofs.«01_k».proof.Proof.Gen.ReferenceIdeal
public import proofs.«01_k».proof.Proof.Gen.Words
public import Idealize.ShloMosaic.Lib.StableHlo.Run
public import Idealize.ShloMosaic.PureOps.Ideal

@[expose] public section

noncomputable section

namespace Cert.Swap.Exact

open Cert.ReferenceIdeal Cert.ReferenceIdeal.Gen
open Idealize.ShloMosaic Idealize.ShloMosaic.TcCoe Idealize.ShloMosaic.StableHlo Idealize.SL.Sem

variable {F : FTy → Type} [FloatOps F]

/-- The operations, in order: the argsort's three, the fix-up of negative indices, the indexing, the two casts. -/
abbrev ops : List (HloOp τ sig (Elt F)) :=
  [ TRef.nullary main_call0.v0 (iotaInDim S2 32 0),
    TRef.binary (.of main_arg1) main_call0.v0 main_call0.v1_0 (fun x y => (Host.sort2 S2 0 comparator_i32_i32_d0 x y).1),
    TRef.binary (.of main_arg1) main_call0.v0 main_call0.v1_1 (fun x y => (Host.sort2 S2 0 comparator_i32_i32_d0 x y).2),
    nullary main_c (constantI S_ 32 0#32),
    unary main_c main_v1 (broadcastInDim S2 ![] bcast_S_S2),
    binary main_v0 main_v1 main_v2 (cmpi .slt),
    nullary main_c_0 (constantI S_ 32 2#32),
    unary main_c_0 main_v3 (broadcastInDim S2 ![] bcast_S_S2),
    binary main_v0 main_v3 main_v4 addi,
    ternary main_v2 main_v4 main_v0 main_v5 select,
    unary main_v5 main_v6 (broadcastInDim S2x1 ![0] bcast_S2_S2x1_0),
    binary main_arg0 main_v6 main_v7 (fun x i => Host.gather gather_S2x256x256_S2x1_S2x256x256_12_0_n_n_0_1_1256256 x i),
    unary main_v7 main_v8 (extf .f32 · bitsLt_bf16_f32),
    unary main_v8 main_v9 (truncf .bf16 · bitsLt_bf16_f32) ]

/-- The rows of `x` that the argsort of `pi` names. -/
def picked (x : FVec F S2x256x256 .bf16) (pi : IVec S2 32) : FVec F S2x256x256 .bf16 :=
  Rows.indexed comparator_i32_i32_d0 pi gather_S2x256x256_S2x1_S2x256x256_12_0_n_n_0_1_1256256_wf bcast_S_S2 bcast_S2_S2x1_0 x

/-- The result, of the two arguments. -/
def out (x : FVec F S2x256x256 .bf16) (pi : IVec S2 32) : FVec F S2x256x256 .bf16 := truncf .bf16 (extf .f32 (picked x pi) bitsLt_bf16_f32) bitsLt_bf16_f32

/-- The operations leave it in the result's buffer; -/
theorem result_eq (V : Valuation τ sig (Elt F)) :
    after ops V (main_v9 : DevRef τ sig) = out (V (main_arg0 : DevRef τ sig)) (V (main_arg1 : DevRef τ sig)) := by
  after_results
  rfl

/-- and neither argument's buffer is written. -/
theorem args_eq (V : Valuation τ sig (Elt F)) :
    after ops V (main_arg0 : DevRef τ sig) = V (main_arg0 : DevRef τ sig) ∧ after ops V (main_arg1 : DevRef τ sig) = V (main_arg1 : DevRef τ sig) := by
  constructor <;> after_results

/-- The run, for any float values and any memory: it ends, the result's buffer holding `out` of the arguments, the arguments
    unchanged. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v9).trans (result_eq _), (h c main_arg0).trans (args_eq _).1, (h c main_arg1).trans (args_eq _).2⟩)
    (run_seq (by decide) (by decide) defs main (fun _ => ops) (fun _ => rfl)
      (fun _ => ⟨nullary_bufs_sub .., binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub .., unary_bufs_sub ..⟩) m ρ)

/-- Of a `pi` whose words sort as `s` says, the rows of `x` exchanged or as they are. -/
theorem picked_eq (s : Bool) (x : FVec F S2x256x256 .bf16) (pi : IVec S2 32)
    (h : (IntOp.cmpi .slt (pi (Rows.at1 1)) (pi (Rows.at1 0)) == 1#1) = s) : picked x pi = Rows.turned s x := by
  unfold picked
  rw [Rows.indexed_eq]
  exact congrArg (Rows.turned · x) h

/-- With exact floats the two casts change nothing. -/
theorem out_eq (x : FVec Ideal S2x256x256 .bf16) (pi : IVec S2 32) : out x pi = picked x pi := rfl

end Cert.Swap.Exact

namespace Cert.Swap.Word

open Cert.Words Cert.Words.Gen
open Idealize.ShloMosaic Idealize.ShloMosaic.TcCoe Idealize.ShloMosaic.StableHlo Idealize.SL.Sem

variable {F : FTy → Type} [FloatOps F]

/-- The operations, in order: the argsort's three, the fix-up of negative indices, the indexing. -/
abbrev ops : List (HloOp τ sig (Elt F)) :=
  [ TRef.nullary main_call0.v0 (iotaInDim S2 32 0),
    TRef.binary (.of main_arg1) main_call0.v0 main_call0.v1_0 (fun x y => (Host.sort2 S2 0 comparator_i32_i32_d0 x y).1),
    TRef.binary (.of main_arg1) main_call0.v0 main_call0.v1_1 (fun x y => (Host.sort2 S2 0 comparator_i32_i32_d0 x y).2),
    nullary main_c (constantI S_ 32 0#32),
    unary main_c main_v1 (broadcastInDim S2 ![] bcast_S_S2),
    binary main_v0 main_v1 main_v2 (cmpi .slt),
    nullary main_c_0 (constantI S_ 32 2#32),
    unary main_c_0 main_v3 (broadcastInDim S2 ![] bcast_S_S2),
    binary main_v0 main_v3 main_v4 addi,
    ternary main_v2 main_v4 main_v0 main_v5 select,
    unary main_v5 main_v6 (broadcastInDim S2x1 ![0] bcast_S2_S2x1_0),
    binary main_arg0 main_v6 main_v7 (fun x i => Host.gather gather_S2x256x256_S2x1_S2x256x256_12_0_n_n_0_1_1256256 x i) ]

/-- The rows of `x` that the argsort of `pi` names. -/
def picked (x : FVec F S2x256x256 .bf16) (pi : IVec S2 32) : FVec F S2x256x256 .bf16 :=
  Rows.indexed comparator_i32_i32_d0 pi gather_S2x256x256_S2x1_S2x256x256_12_0_n_n_0_1_1256256_wf bcast_S_S2 bcast_S2_S2x1_0 x

/-- The result, of the two arguments. -/
def out (x : FVec F S2x256x256 .bf16) (pi : IVec S2 32) : FVec F S2x256x256 .bf16 := picked x pi

/-- The operations leave it in the result's buffer; -/
theorem result_eq (V : Valuation τ sig (Elt F)) :
    after ops V (main_v7 : DevRef τ sig) = out (V (main_arg0 : DevRef τ sig)) (V (main_arg1 : DevRef τ sig)) := by
  after_results
  rfl

/-- and neither argument's buffer is written. -/
theorem args_eq (V : Valuation τ sig (Elt F)) :
    after ops V (main_arg0 : DevRef τ sig) = V (main_arg0 : DevRef τ sig) ∧ after ops V (main_arg1 : DevRef τ sig) = V (main_arg1 : DevRef τ sig) := by
  constructor <;> after_results

/-- The run, for any float values and any memory: it ends, the result's buffer holding `out` of the arguments, the arguments
    unchanged. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v7).trans (result_eq _), (h c main_arg0).trans (args_eq _).1, (h c main_arg1).trans (args_eq _).2⟩)
    (run_seq (by decide) (by decide) defs main (fun _ => ops) (fun _ => rfl)
      (fun _ => ⟨nullary_bufs_sub .., binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub ..⟩) m ρ)

/-- Of a `pi` whose words sort as `s` says, the rows of `x` exchanged or as they are. -/
theorem picked_eq (s : Bool) (x : FVec F S2x256x256 .bf16) (pi : IVec S2 32)
    (h : (IntOp.cmpi .slt (pi (Rows.at1 1)) (pi (Rows.at1 0)) == 1#1) = s) : picked x pi = Rows.turned s x := by
  unfold picked
  rw [Rows.indexed_eq]
  exact congrArg (Rows.turned · x) h

end Cert.Swap.Word

end
-- ==== Proof.lean ====
/-
  The certificate: the kernel runs from every memory in which the shards change places on every device, or stay on every
  device (as printed and with exact floats); the two references run from any memory; and the kernel's result is the
  reference's, with exact floats and word for word.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Words
public import proofs.«01_k».proof.Proof.Gen.Pre_swaps_Kernel
public import proofs.«01_k».proof.Proof.Gen.Pre_stays_Kernel
public import proofs.«01_k».proof.Proof.Gen.Pre_swaps_ReferenceIdeal
public import proofs.«01_k».proof.Proof.Gen.Pre_stays_ReferenceIdeal
public import proofs.«01_k».proof.Proof.Values
public import proofs.«01_k».proof.Proof.Printed
public import proofs.«01_k».proof.Proof.Ref
public import Idealize.ShloMosaic.Adequacy
public import Idealize.ShloMosaic.Init

@[expose] public section

noncomputable section

namespace Cert.Proof

open Idealize.ShloMosaic Idealize.ShloMosaic.TcCoe Idealize.SL.Sem
open Cert.Swap (Reads)

/-! ## The frames -/

/-- The kernel as printed runs where the shards change places. -/
theorem frame_swaps : Cert.quiescent_Kernel := fun m ρ h =>
  Swap.run_printed Bits m ρ _ ((θ_run Cert.KernelIdeal.defs _ _).mono (fun _ hr => ⟨fun c => (hr.1 c).2, hr.2⟩)
    (Swap.run_reads (F := Bits) m ρ true fun c => Swap.reads_of_swaps _ _ (h c)))
/-- The kernel as printed runs where the shards stay. -/
theorem frame_stays : Cert.quiescent_Kernel_pre_stays_Kernel := fun m ρ h =>
  Swap.run_printed Bits m ρ _ ((θ_run Cert.KernelIdeal.defs _ _).mono (fun _ hr => ⟨fun c => (hr.1 c).2, hr.2⟩)
    (Swap.run_reads (F := Bits) m ρ false fun c => Swap.reads_of_stays _ _ (h c)))

/-- With exact floats it runs where the shards change places. -/
theorem frame_exact_swaps : Cert.quiescent_KernelIdeal := fun m ρ h =>
  (θ_run Cert.KernelIdeal.defs _ _).mono (fun _ hr => ⟨fun c => (hr.1 c).2, hr.2⟩)
    (Swap.run_reads (F := Ideal) m ρ true fun c => Swap.reads_of_swaps _ _ (h c))
/-- With exact floats it runs where the shards stay. -/
theorem frame_exact_stays : Cert.quiescent_KernelIdeal_pre_stays_Kernel := fun m ρ h =>
  (θ_run Cert.KernelIdeal.defs _ _).mono (fun _ hr => ⟨fun c => (hr.1 c).2, hr.2⟩)
    (Swap.run_reads (F := Ideal) m ρ false fun c => Swap.reads_of_stays _ _ (h c))

/-- The reference runs, from any memory. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r =>
      (∀ c : Dev Cert.ReferenceIdeal.nD, r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1))
      ∧ r.2.sem = fun _ => 0) :=
  (θ_run Cert.ReferenceIdeal.defs _ _).mono (fun r h => ⟨fun c => (h c).2, sem_eq_zero_of_no_sems (by decide) r.2⟩) (Swap.Exact.run_ref m ρ)

/-- So does the reference without casts. -/
theorem frame_words (m : (ℓ : Loc Cert.Words.nD Cert.Words.τ Cert.Words.sig) → Buf (Elt Bits) ℓ) (ρ : Dev Cert.Words.nD → PrngReg) :
    θ_run Cert.Words.defs (onTc (τ := Cert.Words.τ) (Cert.Words.main (F := Bits))) ⟨m, fun _ => 0, ρ⟩ (fun r =>
      (∀ c : Dev Cert.Words.nD, r.2.mem ((c.tc : Thread _ _).loc Cert.Words.main_arg0) = m ((c.tc : Thread _ _).loc Cert.Words.main_arg0)
        ∧ r.2.mem ((c.tc : Thread _ _).loc Cert.Words.main_arg1) = m ((c.tc : Thread _ _).loc Cert.Words.main_arg1))
      ∧ r.2.sem = fun _ => 0) :=
  (θ_run Cert.Words.defs _ _).mono (fun r h => ⟨fun c => (h c).2, sem_eq_zero_of_no_sems (by decide) r.2⟩) (Swap.Word.run_ref m ρ)

/-! ## The values -/

/-- With exact floats, from blocks of the reference's `x` and copies of its `pi`, which says `s`: the kernel's results are the
    blocks of the reference's. -/
theorem exact (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (s : Bool) (hs : Reads s (m' (((0 : Dev Cert.ReferenceIdeal.nD).tc : Thread _ Cert.ReferenceIdeal.τ).loc Cert.ReferenceIdeal.main_arg1)))
    (hm : ∀ c : Dev Cert.KernelIdeal.nD,
      m ((c.tc : Thread _ Cert.KernelIdeal.τ).loc Cert.KernelIdeal.main_arg0) = Swap.block c (m' (((0 : Dev Cert.ReferenceIdeal.nD).tc : Thread _ Cert.ReferenceIdeal.τ).loc Cert.ReferenceIdeal.main_arg0))
      ∧ m ((c.tc : Thread _ Cert.KernelIdeal.τ).loc Cert.KernelIdeal.main_arg1) = m' (((0 : Dev Cert.ReferenceIdeal.nD).tc : Thread _ Cert.ReferenceIdeal.τ).loc Cert.ReferenceIdeal.main_arg1)) :
    ∃ v0 : Buf (Elt Ideal) (((0 : Dev Cert.ReferenceIdeal.nD).tc : Thread _ Cert.ReferenceIdeal.τ).loc Cert.ReferenceIdeal.main_v9),
      θ_run Cert.KernelIdeal.defs (onTc (τ := Cert.KernelIdeal.τ) (Cert.KernelIdeal.main (F := Ideal))) ⟨m, fun _ => 0, ρ⟩ (fun r => ∀ c : Dev Cert.KernelIdeal.nD,
          r.2.mem ((c.tc : Thread _ Cert.KernelIdeal.τ).loc Cert.KernelIdeal.main_v1) = Swap.block c v0
          ∧ r.2.mem ((c.tc : Thread _ Cert.KernelIdeal.τ).loc Cert.KernelIdeal.main_arg0) = m ((c.tc : Thread _ Cert.KernelIdeal.τ).loc Cert.KernelIdeal.main_arg0)
          ∧ r.2.mem ((c.tc : Thread _ Cert.KernelIdeal.τ).loc Cert.KernelIdeal.main_arg1) = m ((c.tc : Thread _ Cert.KernelIdeal.τ).loc Cert.KernelIdeal.main_arg1))
      ∧ θ_run Cert.ReferenceIdeal.defs (onTc (τ := Cert.ReferenceIdeal.τ) (Cert.ReferenceIdeal.main (F := Ideal))) ⟨m', fun _ => 0, ρ'⟩ (fun r =>
          r.2.mem (((0 : Dev Cert.ReferenceIdeal.nD).tc : Thread _ Cert.ReferenceIdeal.τ).loc Cert.ReferenceIdeal.main_v9) = v0
          ∧ r.2.mem (((0 : Dev Cert.ReferenceIdeal.nD).tc : Thread _ Cert.ReferenceIdeal.τ).loc Cert.ReferenceIdeal.main_arg0) = m' (((0 : Dev Cert.ReferenceIdeal.nD).tc : Thread _ Cert.ReferenceIdeal.τ).loc Cert.ReferenceIdeal.main_arg0)
          ∧ r.2.mem (((0 : Dev Cert.ReferenceIdeal.nD).tc : Thread _ Cert.ReferenceIdeal.τ).loc Cert.ReferenceIdeal.main_arg1) = m' (((0 : Dev Cert.ReferenceIdeal.nD).tc : Thread _ Cert.ReferenceIdeal.τ).loc Cert.ReferenceIdeal.main_arg1)) :=
  ⟨_, Swap.run_values m ρ s _ _ hs hm, (θ_run Cert.ReferenceIdeal.defs _ _).mono
    (fun _ h => ⟨((h 0).1.trans (Swap.Exact.out_eq _ _)).trans (Swap.Exact.picked_eq s _ _ hs.2), (h 0).2⟩) (Swap.Exact.run_ref m' ρ')⟩

/-- Word for word, the same against the reference without casts. -/
theorem words (m : (ℓ : Loc Cert.Kernel.nD Cert.Kernel.τ Cert.Kernel.sig) → Buf (Elt Bits) ℓ) (ρ : Dev Cert.Kernel.nD → PrngReg)
    (m' : (ℓ : Loc Cert.Words.nD Cert.Words.τ Cert.Words.sig) → Buf (Elt Bits) ℓ) (ρ' : Dev Cert.Words.nD → PrngReg)
    (s : Bool) (hs : Reads s (m' (((0 : Dev Cert.Words.nD).tc : Thread _ Cert.Words.τ).loc Cert.Words.main_arg1)))
    (hm : ∀ c : Dev Cert.Kernel.nD,
      m ((c.tc : Thread _ Cert.Kernel.τ).loc Cert.Kernel.main_arg0) = Swap.block c (m' (((0 : Dev Cert.Words.nD).tc : Thread _ Cert.Words.τ).loc Cert.Words.main_arg0))
      ∧ m ((c.tc : Thread _ Cert.Kernel.τ).loc Cert.Kernel.main_arg1) = m' (((0 : Dev Cert.Words.nD).tc : Thread _ Cert.Words.τ).loc Cert.Words.main_arg1)) :
    ∃ v0 : Buf (Elt Bits) (((0 : Dev Cert.Words.nD).tc : Thread _ Cert.Words.τ).loc Cert.Words.main_v7),
      θ_run Cert.Kernel.defs (onTc (τ := Cert.Kernel.τ) (Cert.Kernel.main (F := Bits))) ⟨m, fun _ => 0, ρ⟩ (fun r => ∀ c : Dev Cert.Kernel.nD,
          r.2.mem ((c.tc : Thread _ Cert.Kernel.τ).loc Cert.Kernel.main_v1) = Swap.block c v0
          ∧ r.2.mem ((c.tc : Thread _ Cert.Kernel.τ).loc Cert.Kernel.main_arg0) = m ((c.tc : Thread _ Cert.Kernel.τ).loc Cert.Kernel.main_arg0)
          ∧ r.2.mem ((c.tc : Thread _ Cert.Kernel.τ).loc Cert.Kernel.main_arg1) = m ((c.tc : Thread _ Cert.Kernel.τ).loc Cert.Kernel.main_arg1))
      ∧ θ_run Cert.Words.defs (onTc (τ := Cert.Words.τ) (Cert.Words.main (F := Bits))) ⟨m', fun _ => 0, ρ'⟩ (fun r =>
          r.2.mem (((0 : Dev Cert.Words.nD).tc : Thread _ Cert.Words.τ).loc Cert.Words.main_v7) = v0
          ∧ r.2.mem (((0 : Dev Cert.Words.nD).tc : Thread _ Cert.Words.τ).loc Cert.Words.main_arg0) = m' (((0 : Dev Cert.Words.nD).tc : Thread _ Cert.Words.τ).loc Cert.Words.main_arg0)
          ∧ r.2.mem (((0 : Dev Cert.Words.nD).tc : Thread _ Cert.Words.τ).loc Cert.Words.main_arg1) = m' (((0 : Dev Cert.Words.nD).tc : Thread _ Cert.Words.τ).loc Cert.Words.main_arg1)) :=
  ⟨Swap.Rows.turned s (m' (((0 : Dev Cert.Words.nD).tc : Thread _ Cert.Words.τ).loc Cert.Words.main_arg0)),
    Swap.run_printed Bits m ρ _ (Swap.run_values (F := Bits) m ρ s _ _ hs hm),
    (θ_run Cert.Words.defs _ _).mono (fun _ h => ⟨(h 0).1.trans (Swap.Word.picked_eq s _ _ hs.2), (h 0).2⟩) (Swap.Word.run_ref m' ρ')⟩

/-- With exact floats, where the shards change places. -/
theorem exact_swaps : Cert.algebraic_KernelIdeal_ReferenceIdeal := fun m ρ m' ρ' h hm =>
  exact m ρ m' ρ' true ((hm 0).2 ▸ Swap.reads_of_swaps _ _ (h 0)) hm
/-- With exact floats, where the shards stay. -/
theorem exact_stays : Cert.algebraic_KernelIdeal_ReferenceIdeal_pre_stays_Kernel := fun m ρ m' ρ' h hm =>
  exact m ρ m' ρ' false ((hm 0).2 ▸ Swap.reads_of_stays _ _ (h 0)) hm
/-- Word for word, where the shards change places. -/
theorem words_swaps : Cert.bitexact_Kernel_Words := fun m ρ m' ρ' h hm =>
  words m ρ m' ρ' true ((hm 0).2 ▸ Swap.reads_of_swaps _ _ (h 0)) hm
/-- Word for word, where the shards stay. -/
theorem words_stays : Cert.bitexact_Kernel_Words_pre_stays_Kernel := fun m ρ m' ρ' h hm =>
  words m ρ m' ρ' false ((hm 0).2 ▸ Swap.reads_of_stays _ _ (h 0)) hm

/-! ## The certificate -/

/-- All the claims together. -/
theorem claim : Cert.Claim := ⟨Cert.Kernel.Gen.facts, Cert.KernelIdeal.Gen.facts, Cert.ReferenceIdeal.Gen.facts, Cert.Words.Gen.facts, Cert.Pre_swaps_Kernel.Gen.facts, Cert.Pre_stays_Kernel.Gen.facts, Cert.Pre_swaps_ReferenceIdeal.Gen.facts, Cert.Pre_stays_ReferenceIdeal.Gen.facts,
  frame_swaps, frame_stays, frame_exact_swaps, frame_exact_stays,
  fun m ρ _ => frame_reference m ρ, fun m ρ _ => frame_reference m ρ, fun m ρ _ => frame_reference m ρ,
  fun m ρ _ => frame_words m ρ, fun m ρ _ => frame_words m ρ,
  trivial, exact_swaps, exact_stays, words_swaps, words_stays⟩

end Cert.Proof

end
